-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_whole_class_ids [hPre_whole_class_ids : Cert.Pre_whole_class_ids.Facts] (m : (ℓ : Loc Cert.KernelIdeal.nD Cert.KernelIdeal.τ Cert.KernelIdeal.sig) → Buf (Elt Ideal) ℓ) : Prop :=
  ∀ c : Dev Cert.KernelIdeal.nD,
    (Cert.Pre_whole_class_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_whole_class_ids [hPre_whole_class_ids : Cert.Pre_whole_class_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_whole_class_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_whole_class_ids [hKernelIdeal : Cert.KernelIdeal.Facts] [hPre_whole_class_ids : Cert.Pre_whole_class_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_whole_class_ids m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_whole_class_ids [hReferenceIdeal : Cert.ReferenceIdeal.Facts] [hPre_whole_class_ids : Cert.Pre_whole_class_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_whole_class_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_whole_class_ids [hKernelIdeal : Cert.KernelIdeal.Facts] [hReferenceIdeal : Cert.ReferenceIdeal.Facts] [hPre_whole_class_ids : Cert.Pre_whole_class_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_whole_class_ids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_whole_class_ids : Cert.Pre_whole_class_ids.Facts),
    quiescent_Kernel (hKernel := hKernel)
    ∧ quiescent_KernelIdeal (hKernelIdeal := hKernelIdeal)
    ∧ quiescent_KernelIdeal_pre_whole_class_ids (hKernelIdeal := hKernelIdeal) (hPre_whole_class_ids := hPre_whole_class_ids)
    ∧ quiescent_ReferenceIdeal (hReferenceIdeal := hReferenceIdeal)
    ∧ quiescent_ReferenceIdeal_pre_whole_class_ids (hReferenceIdeal := hReferenceIdeal) (hPre_whole_class_ids := hPre_whole_class_ids)
    ∧ preserves_Kernel_KernelIdeal
    ∧ algebraic_KernelIdeal_ReferenceIdeal_pre_whole_class_ids (hKernelIdeal := hKernelIdeal) (hReferenceIdeal := hReferenceIdeal) (hPre_whole_class_ids := hPre_whole_class_ids)
-- ==== Pre_whole_class_ids.lean ====
abbrev S4x5000x4 : Shape := ⟨3, ![4, 5000, 4]⟩
abbrev S4x5000x6 : Shape := ⟨3, ![4, 5000, 6]⟩
abbrev S4x5000x1 : Shape := ⟨3, ![4, 5000, 1]⟩
abbrev S4x5000 : Shape := ⟨2, ![4, 5000]⟩
abbrev S_ : Shape := ⟨0, ![]⟩

class Facts : Prop where
  slices_S4x5000x6_S4x5000x1_0_0_4 : S4x5000x6.Slices ![0, 0, 4] S4x5000x1
  shapeCasts_S4x5000x1_S4x5000 : S4x5000x1.ShapeCasts S4x5000
  slices_S4x5000x6_S4x5000x1_0_0_5 : S4x5000x6.Slices ![0, 0, 5] S4x5000x1
  bcast_S_S4x5000 : S_.BroadcastsInDim S4x5000 (![] : Fin 0 → Fin S4x5000.rank)
  reducesTo_S4x5000_S_d0_1 : S4x5000.ReducesTo [0, 1] S_
  h_S_ : 0 < S_.numel

variable [Facts]

def fn {F : FTy → Type} [FloatOps F] (main_arg0 : FVec F S4x5000x4 .f32) (main_arg1 : FVec F S4x5000x6 .f32) : IVec S_ 1 :=
  let main_v0 : FVec F S4x5000x1 .f32 := (extractStridedSlice S4x5000x1 ![0, 0, 4] · slices_S4x5000x6_S4x5000x1_0_0_4) main_arg1
  let main_v1 : FVec F S4x5000 .f32 := shapeCast S4x5000 main_v0 shapeCasts_S4x5000x1_S4x5000
  let main_v2 : FVec F S4x5000x1 .f32 := (extractStridedSlice S4x5000x1 ![0, 0, 5] · slices_S4x5000x6_S4x5000x1_0_0_5) main_arg1
  let main_v3 : FVec F S4x5000 .f32 := shapeCast S4x5000 main_v2 shapeCasts_S4x5000x1_S4x5000
  let main_v4 : IVec S4x5000 32 := fptosi 32 main_v1
  let main_v5 : FVec F S4x5000 .f32 := sitofp .f32 main_v4
  let main_v6 : IVec S4x5000 1 := cmpf .oeq main_v1 main_v5
  let main_v7 : IVec S4x5000 32 := fptosi 32 main_v1
  let main_c : IVec S_ 32 := constantI S_ 32 0#32
  let main_v8 : IVec S4x5000 32 := broadcastInDim S4x5000 ![] bcast_S_S4x5000 main_c
  let main_v9 : IVec S4x5000 1 := cmpi .sle main_v7 main_v8
  let main_cst : FVec F S_ .f32 := constant S_ .f32 0x3F333333#32
  let main_v10 : FVec F S4x5000 .f32 := broadcastInDim S4x5000 ![] bcast_S_S4x5000 main_cst
  let main_v11 : IVec S4x5000 1 := cmpf .olt main_v3 main_v10
  let main_v12 : IVec S4x5000 1 := ori main_v9 main_v11
  let main_v13 : IVec S4x5000 1 := ori main_v6 main_v12
  let main_c_0 : IVec S_ 1 := constantI S_ 1 1#1
  let main_v14 : IVec S_ 1 := (fun x v => Host.reduce IntOp.andi x v reducesTo_S4x5000_S_d0_1 h_S_) main_v13 main_c_0
  main_v14
-- ==== Kernel.lean ====
abbrev S4x5000x4 : Shape := ⟨3, ![4, 5000, 4]⟩
abbrev S4x5000x6 : Shape := ⟨3, ![4, 5000, 6]⟩
abbrev S4x4x5000 : Shape := ⟨3, ![4, 4, 5000]⟩
abbrev S4x6x5000 : Shape := ⟨3, ![4, 6, 5000]⟩
abbrev S_ : Shape := ⟨0, ![]⟩
abbrev S4x4x5120 : Shape := ⟨3, ![4, 4, 5120]⟩
abbrev S4x6x5120 : Shape := ⟨3, ![4, 6, 5120]⟩
abbrev S4x6x128 : Shape := ⟨3, ![4, 6, 128]⟩
abbrev S4x1x5120 : Shape := ⟨3, ![4, 1, 5120]⟩
abbrev S4x5120 : Shape := ⟨2, ![4, 5120]⟩
abbrev S4 : Shape := ⟨1, ![4]⟩
abbrev S4x1 : Shape := ⟨2, ![4, 1]⟩
abbrev S4x6 : Shape := ⟨2, ![4, 6]⟩
abbrev S4x6x1 : Shape := ⟨3, ![4, 6, 1]⟩
abbrev S4x6x100 : Shape := ⟨3, ![4, 6, 100]⟩
abbrev S4x100x6 : Shape := ⟨3, ![4, 100, 6]⟩

abbrev nBuf : Space → Nat
  | .hbm => 13
  | .vmem => 3
  | .smem => 0
  | _ => 0

abbrev bufTy : (tb : Table) → Fin (tcTables nBuf tb) → BufTy
  | .hbm, ⟨0, _⟩ => ⟨S4x5000x4, .f32⟩
  | .hbm, ⟨1, _⟩ => ⟨S4x5000x6, .f32⟩
  | .hbm, ⟨2, _⟩ => ⟨S4x4x5000, .f32⟩
  | .hbm, ⟨3, _⟩ => ⟨S4x6x5000, .f32⟩
  | .hbm, ⟨4, _⟩ => ⟨S_, .i32⟩
  | .hbm, ⟨5, _⟩ => ⟨S_, .f32⟩
  | .hbm, ⟨6, _⟩ => ⟨S4x4x5120, .f32⟩
  | .hbm, ⟨7, _⟩ => ⟨S_, .i32⟩
  | .hbm, ⟨8, _⟩ => ⟨S_, .f32⟩
  | .hbm, ⟨9, _⟩ => ⟨S4x6x5120, .f32⟩
  | .hbm, ⟨10, _⟩ => ⟨S4x6x128, .f32⟩
  | .hbm, ⟨11, _⟩ => ⟨S4x6x100, .f32⟩
  | .hbm, ⟨12, _⟩ => ⟨S4x100x6, .f32⟩
  | .local _ .vmem, ⟨0, _⟩ => ⟨S4x4x5120, .f32⟩
  | .local _ .vmem, ⟨1, _⟩ => ⟨S4x6x5120, .f32⟩
  | .local _ .vmem, ⟨2, _⟩ => ⟨S4x6x128, .f32⟩
  | _, _ => ⟨S4x5000x4, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_43 : BitVec 32 := 0#32
  let c100_i32 : BitVec 32 := 100#32
  let v88 : BitVec 32 := Scalar.addi c0_i32_43 c100_i32
  let c1_i32 : BitVec 32 := 1#32
  ⟨c0_i32_43, v88, c1_i32⟩
abbrev stage0_0 : Fin 1 → Memref sig .tc .vmem S4x4x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x6x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x5000x4 : Shape := ⟨3, ![4, 5000, 4]⟩
abbrev S4x5000x6 : Shape := ⟨3, ![4, 5000, 6]⟩
abbrev S4 : Shape := ⟨1, ![4]⟩
abbrev S4x5000x1 : Shape := ⟨3, ![4, 5000, 1]⟩
abbrev S4x5000 : Shape := ⟨2, ![4, 5000]⟩
abbrev S1x4 : Shape := ⟨2, ![1, 4]⟩
abbrev S1x1x4 : Shape := ⟨3, ![1, 1, 4]⟩
abbrev S_ : Shape := ⟨0, ![]⟩
abbrev S1 : Shape := ⟨1, ![1]⟩
abbrev S5000 : Shape := ⟨1, ![5000]⟩
abbrev S100x4 : Shape := ⟨2, ![100, 4]⟩
abbrev S4x1 : Shape := ⟨2, ![4, 1]⟩
abbrev S4x4 : Shape := ⟨2, ![4, 4]⟩
abbrev S1x5000 : Shape := ⟨2, ![1, 5000]⟩
abbrev S4x100 : Shape := ⟨2, ![4, 100]⟩
abbrev S4x100x1 : Shape := ⟨3, ![4, 100, 1]⟩
abbrev S4x100x4 : Shape := ⟨3, ![4, 100, 4]⟩
abbrev S4x100x6 : Shape := ⟨3, ![4, 100, 6]⟩
abbrev S100x6 : Shape := ⟨2, ![100, 6]⟩

abbrev nBuf : Space → Nat
  | .hbm => 274
  | .vmem => 0
  | .smem => 0
  | _ => 0

abbrev hbmTy0_0 (i : Nat) : BufTy := match i % 128 with
  | 0 => ⟨S4x5000x4, .f32⟩
  | 1 => ⟨S4x5000x6, .f32⟩
  | 2 => ⟨S4, .f32⟩
  | 3 => ⟨S4, .f32⟩
  | 4 => ⟨S4x5000x1, .f32⟩
  | 5 => ⟨S4x5000, .f32⟩
  | 6 => ⟨S4x5000, .i32⟩
  | 7 => ⟨S4x5000x4, .f32⟩
  | 8 => ⟨S4x5000x1, .f32⟩
  | 9 => ⟨S4x5000, .f32⟩
  | 10 => ⟨S1x4, .f32⟩
  | 11 => ⟨S1x1x4, .f32⟩
  | 12 => ⟨S4x5000x4, .f32⟩
  | 13 => ⟨S4x5000x4, .f32⟩
  | 14 => ⟨S4x5000x1, .f32⟩
  | 15 => ⟨S4x5000, .f32⟩
  | 16 => ⟨S4x5000x1, .f32⟩
  | 17 => ⟨S4x5000, .f32⟩
  | 18 => ⟨S4x5000, .f32⟩
  | 19 => ⟨S4x5000x1, .f32⟩
  | 20 => ⟨S4x5000, .f32⟩
  | 21 => ⟨S4x5000x1, .f32⟩
  | 22 => ⟨S4x5000, .f32⟩
  | 23 => ⟨S4x5000, .f32⟩
  | 24 => ⟨S4x5000x1, .f32⟩
  | 25 => ⟨S4x5000, .f32⟩
  | 26 => ⟨S_, .f32⟩
  | 27 => ⟨S4x5000, .f32⟩
  | 28 => ⟨S4x5000, .f32⟩
  | 29 => ⟨S4x5000, .f32⟩
  | 30 => ⟨S4x5000x1, .f32⟩
  | 31 => ⟨S4x5000, .f32⟩
  | 32 => ⟨S_, .f32⟩
  | 33 => ⟨S4x5000, .f32⟩
  | 34 => ⟨S4x5000, .f32⟩
  | 35 => ⟨S4x5000, .f32⟩
  | 36 => ⟨S4x5000x1, .f32⟩
  | 37 => ⟨S4x5000, .f32⟩
  | 38 => ⟨S4x5000, .f32⟩
  | 39 => ⟨S4x5000, .f32⟩
  | 40 => ⟨S4x5000x1, .f32⟩
  | 41 => ⟨S4x5000, .f32⟩
  | 42 => ⟨S4x5000, .f32⟩
  | 43 => ⟨S4x5000, .f32⟩
  | 44 => ⟨S4x5000x1, .f32⟩
  | 45 => ⟨S4x5000, .f32⟩
  | 46 => ⟨S4x5000, .f32⟩
  | 47 => ⟨S4x5000, .f32⟩
  | 48 => ⟨S4x5000x1, .f32⟩
  | 49 => ⟨S4x5000, .f32⟩
  | 50 => ⟨S4x5000, .f32⟩
  | 51 => ⟨S4x5000, .f32⟩
  | 52 => ⟨S_, .f32⟩
  | 53 => ⟨S4x5000, .f32⟩
  | 54 => ⟨S4x5000, .f32⟩
  | 55 => ⟨S4x5000, .f32⟩
  | 56 => ⟨S_, .f32⟩
  | 57 => ⟨S4x5000, .f32⟩
  | 58 => ⟨S4x5000, .f32⟩
  | 59 => ⟨S4x5000, .f32⟩
  | 60 => ⟨S4x5000, .f32⟩
  | 61 => ⟨S4x5000, .f32⟩
  | 62 => ⟨S4x5000x1, .f32⟩
  | 63 => ⟨S4x5000x1, .f32⟩
  | 64 => ⟨S4x5000x1, .f32⟩
  | 65 => ⟨S4x5000x1, .f32⟩
  | 66 => ⟨S4x5000x4, .f32⟩
  | 67 => ⟨S1, .f32⟩
  | 68 => ⟨S_, .f32⟩
  | 69 => ⟨S1, .f32⟩
  | 70 => ⟨S_, .f32⟩
  | 71 => ⟨S1, .f32⟩
  | 72 => ⟨S_, .f32⟩
  | 73 => ⟨S1, .f32⟩
  | 74 => ⟨S_, .f32⟩
  | 75 => ⟨S4x5000x1, .f32⟩
  | 76 => ⟨S4x5000, .f32⟩
  | 77 => ⟨S4x5000, .f32⟩
  | 78 => ⟨S4x5000, .f32⟩
  | 79 => ⟨S4x5000, .f32⟩
  | 80 => ⟨S4x5000, .f32⟩
  | 81 => ⟨S4x5000x1, .f32⟩
  | 82 => ⟨S4x5000, .f32⟩
  | 83 => ⟨S4x5000, .f32⟩
  | 84 => ⟨S4x5000, .f32⟩
  | 85 => ⟨S4x5000, .f32⟩
  | 86 => ⟨S4x5000, .f32⟩
  | 87 => ⟨S4x5000x1, .f32⟩
  | 88 => ⟨S4x5000, .f32⟩
  | 89 => ⟨S4x5000, .f32⟩
  | 90 => ⟨S4x5000, .f32⟩
  | 91 => ⟨S4x5000, .f32⟩
  | 92 => ⟨S4x5000, .f32⟩
  | 93 => ⟨S4x5000x1, .f32⟩
  | 94 => ⟨S4x5000, .f32⟩
  | 95 => ⟨S4x5000, .f32⟩
  | 96 => ⟨S4x5000, .f32⟩
  | 97 => ⟨S4x5000, .f32⟩
  | 98 => ⟨S4x5000, .f32⟩
  | 99 => ⟨S4x5000x1, .f32⟩
  | 100 => ⟨S4x5000x1, .f32⟩
  | 101 => ⟨S4x5000x1, .f32⟩
  | 102 => ⟨S4x5000x1, .f32⟩
  | 103 => ⟨S4x5000x4, .f32⟩
  | 104 => ⟨S_, .i32⟩
  | 105 => ⟨S4x5000, .i32⟩
  | 106 => ⟨S4x5000, .i1⟩
  | 107 => ⟨S_, .f32⟩
  | 108 => ⟨S4x5000, .f32⟩
  | 109 => ⟨S4x5000, .i1⟩
  | 110 => ⟨S4x5000, .i1⟩
  | 111 => ⟨S_, .f32⟩
  | 112 => ⟨S_, .f32⟩
  | 113 => ⟨S5000, .f32⟩
  | 114 => ⟨S4x5000, .f32⟩
  | 115 => ⟨S4x5000, .f32⟩
  | 116 => ⟨S4x5000, .f32⟩
  | 117 => ⟨S4x5000x1, .f32⟩
  | 118 => ⟨S_, .f32⟩
  | 119 => ⟨S4x5000x1, .f32⟩
  | 120 => ⟨S4x5000x1, .f32⟩
  | 121 => ⟨S4x5000x4, .f32⟩
  | 122 => ⟨S4x5000x4, .f32⟩
  | 123 => ⟨S4x5000x1, .f32⟩
  | 124 => ⟨S4x5000, .f32⟩
  | 125 => ⟨S4x5000x1, .f32⟩
  | 126 => ⟨S4x5000, .f32⟩
  | 127 => ⟨S4x5000, .f32⟩
  | _ => ⟨S4x5000x4, .f32⟩

abbrev hbmTy0_1 (i : Nat) : BufTy := match i % 128 with
  | 0 => ⟨S4x5000x1, .f32⟩
  | 1 => ⟨S4x5000, .f32⟩
  | 2 => ⟨S4x5000x1, .f32⟩
  | 3 => ⟨S4x5000, .f32⟩
  | 4 => ⟨S4x5000, .f32⟩
  | 5 => ⟨S4x5000, .f32⟩
  | 6 => ⟨S_, .i32⟩
  | 7 => ⟨S100x4, .i32⟩
  | 8 => ⟨S_, .i1⟩
  | 9 => ⟨S100x4, .i1⟩
  | 10 => ⟨S_, .i32⟩
  | 11 => ⟨S4x5000x4, .f32⟩
  | 12 => ⟨S4x5000, .f32⟩
  | 13 => ⟨S_, .i32⟩
  | 14 => ⟨S4x5000, .f32⟩
  | 15 => ⟨S100x4, .i32⟩
  | 16 => ⟨S100x4, .i1⟩
  | 17 => ⟨S_, .i32⟩
  | 18 => ⟨S_, .i1⟩
  | 19 => ⟨S4x5000, .i32⟩
  | 20 => ⟨S_, .f32⟩
  | 21 => ⟨S_, .i32⟩
  | 22 => ⟨S4, .f32⟩
  | 23 => ⟨S4, .i32⟩
  | 24 => ⟨S4x1, .i32⟩
  | 25 => ⟨S4, .f32⟩
  | 26 => ⟨S_, .f32⟩
  | 27 => ⟨S4, .f32⟩
  | 28 => ⟨S4, .i1⟩
  | 29 => ⟨S4x1, .i32⟩
  | 30 => ⟨S4x4, .f32⟩
  | 31 => ⟨S4x1, .f32⟩
  | 32 => ⟨S4, .f32⟩
  | 33 => ⟨S4x5000x1, .f32⟩
  | 34 => ⟨S4x5000, .f32⟩
  | 35 => ⟨S4x1, .f32⟩
  | 36 => ⟨S4x5000, .f32⟩
  | 37 => ⟨S4x5000, .f32⟩
  | 38 => ⟨S4x1, .f32⟩
  | 39 => ⟨S4, .f32⟩
  | 40 => ⟨S4x5000x1, .f32⟩
  | 41 => ⟨S4x5000, .f32⟩
  | 42 => ⟨S4x1, .f32⟩
  | 43 => ⟨S4x5000, .f32⟩
  | 44 => ⟨S4x5000, .f32⟩
  | 45 => ⟨S4x1, .f32⟩
  | 46 => ⟨S4, .f32⟩
  | 47 => ⟨S4x5000x1, .f32⟩
  | 48 => ⟨S4x5000, .f32⟩
  | 49 => ⟨S4x1, .f32⟩
  | 50 => ⟨S4x5000, .f32⟩
  | 51 => ⟨S4x5000, .f32⟩
  | 52 => ⟨S4x1, .f32⟩
  | 53 => ⟨S4, .f32⟩
  | 54 => ⟨S4x5000x1, .f32⟩
  | 55 => ⟨S4x5000, .f32⟩
  | 56 => ⟨S4x1, .f32⟩
  | 57 => ⟨S4x5000, .f32⟩
  | 58 => ⟨S4x5000, .f32⟩
  | 59 => ⟨S4x5000, .f32⟩
  | 60 => ⟨S_, .f32⟩
  | 61 => ⟨S4x5000, .f32⟩
  | 62 => ⟨S4x5000, .f32⟩
  | 63 => ⟨S4x5000, .f32⟩
  | 64 => ⟨S_, .f32⟩
  | 65 => ⟨S4x5000, .f32⟩
  | 66 => ⟨S4x5000, .f32⟩
  | 67 => ⟨S4x5000, .f32⟩
  | 68 => ⟨S4x1, .i32⟩
  | 69 => ⟨S4, .f32⟩
  | 70 => ⟨S4x1, .f32⟩
  | 71 => ⟨S4x5000, .f32⟩
  | 72 => ⟨S4x5000, .f32⟩
  | 73 => ⟨S4x5000, .f32⟩
  | 74 => ⟨S_, .f32⟩
  | 75 => ⟨S4x5000, .f32⟩
  | 76 => ⟨S4x5000, .f32⟩
  | 77 => ⟨S4x5000, .f32⟩
  | 78 => ⟨S_, .f32⟩
  | 79 => ⟨S4x5000, .f32⟩
  | 80 => ⟨S4x5000, .i1⟩
  | 81 => ⟨S5000, .i32⟩
  | 82 => ⟨S1x5000, .i32⟩
  | 83 => ⟨S4x1, .i32⟩
  | 84 => ⟨S4x5000, .i32⟩
  | 85 => ⟨S4x5000, .i32⟩
  | 86 => ⟨S4x5000, .i1⟩
  | 87 => ⟨S4x5000, .i1⟩
  | 88 => ⟨S4x1, .i1⟩
  | 89 => ⟨S4x5000, .i1⟩
  | 90 => ⟨S4x5000, .i1⟩
  | 91 => ⟨S_, .f32⟩
  | 92 => ⟨S_, .f32⟩
  | 93 => ⟨S5000, .f32⟩
  | 94 => ⟨S4x5000, .f32⟩
  | 95 => ⟨S4x5000, .f32⟩
  | 96 => ⟨S1x4, .i32⟩
  | 97 => ⟨S_, .i32⟩
  | 98 => ⟨S100x4, .i32⟩
  | 99 => ⟨S1x4, .i1⟩
  | 100 => ⟨S_, .i32⟩
  | 101 => ⟨S100x4, .i1⟩
  | 102 => ⟨S_, .i32⟩
  | 103 => ⟨S_, .i32⟩
  | 104 => ⟨S_, .i32⟩
  | 105 => ⟨S100x4, .i32⟩
  | 106 => ⟨S100x4, .i1⟩
  | 107 => ⟨S_, .i32⟩
  | 108 => ⟨S100x4, .i32⟩
  | 109 => ⟨S100x4, .i32⟩
  | 110 => ⟨S100x4, .i32⟩
  | 111 => ⟨S4x100, .i32⟩
  | 112 => ⟨S4x100x1, .i32⟩
  | 113 => ⟨S4x100x4, .f32⟩
  | 114 => ⟨S_, .i32⟩
  | 115 => ⟨S100x4, .i32⟩
  | 116 => ⟨S100x4, .i1⟩
  | 117 => ⟨S_, .i32⟩
  | 118 => ⟨S100x4, .i32⟩
  | 119 => ⟨S100x4, .i32⟩
  | 120 => ⟨S100x4, .i32⟩
  | 121 => ⟨S4x100, .i32⟩
  | 122 => ⟨S4x100x1, .i32⟩
  | 123 => ⟨S4x100, .i32⟩
  | 124 => ⟨S4x100, .f32⟩
  | 125 => ⟨S4x100x1, .f32⟩
  | 126 => ⟨S_, .i32⟩
  | 127 => ⟨S100x4, .i32⟩
  | _ => ⟨S4x5000x4, .f32⟩

abbrev hbmTy0_2 (i : Nat) : BufTy := match i % 128 with
  | 0 => ⟨S100x4, .i1⟩
  | 1 => ⟨S_, .i32⟩
  | 2 => ⟨S100x4, .i32⟩
  | 3 => ⟨S100x4, .i32⟩
  | 4 => ⟨S100x4, .i32⟩
  | 5 => ⟨S4x100, .i32⟩
  | 6 => ⟨S4x100x1, .i32⟩
  | 7 => ⟨S4x100, .f32⟩
  | 8 => ⟨S4x100x1, .f32⟩
  | 9 => ⟨S4x100x6, .f32⟩
  | 10 => ⟨S4x100, .i1⟩
  | 11 => ⟨S4x100x1, .i1⟩
  | 12 => ⟨S_, .f32⟩
  | 13 => ⟨S_, .f32⟩
  | 14 => ⟨S4x100x6, .i1⟩
  | 15 => ⟨S100x6, .f32⟩
  | 16 => ⟨S4x100x6, .f32⟩
  | 17 => ⟨S4x100x6, .f32⟩
  | _ => ⟨S4x5000x4, .f32⟩

abbrev hbmTy (i : Nat) : BufTy := match i / 128 with
  | 0 => hbmTy0_0 i
  | 1 => hbmTy0_1 i
  | 2 => hbmTy0_2 i
  | _ => ⟨S4x5000x4, .f32⟩

abbrev bufTy : (tb : Table) → Fin (tcTables nBuf tb) → BufTy
  | .hbm, ⟨i, _⟩ => hbmTy i
  | _, _ => ⟨S4x5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_2 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst_3 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_4 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_c : Ref sig .tc := ⟨.hbm, 104, rfl⟩
abbrev main_v84 : Ref sig .tc := ⟨.hbm, 105, rfl⟩
abbrev main_v85 : Ref sig .tc := ⟨.hbm, 106, rfl⟩
abbrev main_cst_5 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_6 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_7 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_c_8 : Ref sig .tc := ⟨.hbm, 134, rfl⟩
abbrev main_v107 : Ref sig .tc := ⟨.hbm, 135, rfl⟩
abbrev main_c_9 : Ref sig .tc := ⟨.hbm, 136, rfl⟩
abbrev main_v108 : Ref sig .tc := ⟨.hbm, 137, rfl⟩
abbrev main_c_10 : Ref sig .tc := ⟨.hbm, 138, rfl⟩
abbrev main_v109_0 : Ref sig .tc := ⟨.hbm, 139, rfl⟩
abbrev main_v109_1 : Ref sig .tc := ⟨.hbm, 140, rfl⟩
abbrev main_v109_2 : Ref sig .tc := ⟨.hbm, 141, rfl⟩
abbrev main_v109_3 : Ref sig .tc := ⟨.hbm, 142, rfl⟩
abbrev main_v109_4 : Ref sig .tc := ⟨.hbm, 143, rfl⟩
abbrev main_v109_5 : Ref sig .tc := ⟨.hbm, 144, rfl⟩
abbrev main_while0c_c_23 : Ref sig .tc := ⟨.hbm, 145, rfl⟩
abbrev main_while0c_v141 : Ref sig .tc := ⟨.hbm, 146, rfl⟩
abbrev main_while0b_call5_v0 : Ref sig .tc := ⟨.hbm, 147, rfl⟩
abbrev main_while0b_call5_cst : Ref sig .tc := ⟨.hbm, 148, rfl⟩
abbrev main_while0b_call5_c : Ref sig .tc := ⟨.hbm, 149, rfl⟩
abbrev main_while0b_call5_v1_0 : Ref sig .tc := ⟨.hbm, 150, rfl⟩
abbrev main_while0b_v141 : Ref sig .tc := ⟨.hbm, 151, rfl⟩
abbrev main_while0b_call6_v0 : Ref sig .tc := ⟨.hbm, 152, rfl⟩
abbrev main_while0b_v142 : Ref sig .tc := ⟨.hbm, 153, rfl⟩
abbrev main_while0b_cst_23 : Ref sig .tc := ⟨.hbm, 154, rfl⟩
abbrev main_while0b_v143 : Ref sig .tc := ⟨.hbm, 155, rfl⟩
abbrev main_while0b_v144 : Ref sig .tc := ⟨.hbm, 156, rfl⟩
abbrev main_while0b_call7_v0 : Ref sig .tc := ⟨.hbm, 157, rfl⟩
abbrev main_while0b_v145 : Ref sig .tc := ⟨.hbm, 158, rfl⟩
abbrev main_while0b_v146 : Ref sig .tc := ⟨.hbm, 159, rfl⟩
abbrev main_while0b_v147 : Ref sig .tc := ⟨.hbm, 160, rfl⟩
abbrev main_while0b_v148 : Ref sig .tc := ⟨.hbm, 161, rfl⟩
abbrev main_while0b_v149 : Ref sig .tc := ⟨.hbm, 162, rfl⟩
abbrev main_while0b_v150 : Ref sig .tc := ⟨.hbm, 163, rfl⟩
abbrev main_while0b_v151 : Ref sig .tc := ⟨.hbm, 164, rfl⟩
abbrev main_while0b_v152 : Ref sig .tc := ⟨.hbm, 165, rfl⟩
abbrev main_while0b_v153 : Ref sig .tc := ⟨.hbm, 166, rfl⟩
abbrev main_while0b_v154 : Ref sig .tc := ⟨.hbm, 167, rfl⟩
abbrev main_while0b_v155 : Ref sig .tc := ⟨.hbm, 168, rfl⟩
abbrev main_while0b_v156 : Ref sig .tc := ⟨.hbm, 169, rfl⟩
abbrev main_while0b_v157 : Ref sig .tc := ⟨.hbm, 170, rfl⟩
abbrev main_while0b_v158 : Ref sig .tc := ⟨.hbm, 171, rfl⟩
abbrev main_while0b_v159 : Ref sig .tc := ⟨.hbm, 172, rfl⟩
abbrev main_while0b_v160 : Ref sig .tc := ⟨.hbm, 173, rfl⟩
abbrev main_while0b_v161 : Ref sig .tc := ⟨.hbm, 174, rfl⟩
abbrev main_while0b_v162 : Ref sig .tc := ⟨.hbm, 175, rfl⟩
abbrev main_while0b_v163 : Ref sig .tc := ⟨.hbm, 176, rfl⟩
abbrev main_while0b_v164 : Ref sig .tc := ⟨.hbm, 177, rfl⟩
abbrev main_while0b_v165 : Ref sig .tc := ⟨.hbm, 178, rfl⟩
abbrev main_while0b_v166 : Ref sig .tc := ⟨.hbm, 179, rfl⟩
abbrev main_while0b_v167 : Ref sig .tc := ⟨.hbm, 180, rfl⟩
abbrev main_while0b_v168 : Ref sig .tc := ⟨.hbm, 181, rfl⟩
abbrev main_while0b_v169 : Ref sig .tc := ⟨.hbm, 182, rfl⟩
abbrev main_while0b_v170 : Ref sig .tc := ⟨.hbm, 183, rfl⟩
abbrev main_while0b_v171 : Ref sig .tc := ⟨.hbm, 184, rfl⟩
abbrev main_while0b_v172 : Ref sig .tc := ⟨.hbm, 185, rfl⟩
abbrev main_while0b_v173 : Ref sig .tc := ⟨.hbm, 186, rfl⟩
abbrev main_while0b_v174 : Ref sig .tc := ⟨.hbm, 187, rfl⟩
abbrev main_while0b_cst_24 : Ref sig .tc := ⟨.hbm, 188, rfl⟩
abbrev main_while0b_v175 : Ref sig .tc := ⟨.hbm, 189, rfl⟩
abbrev main_while0b_v176 : Ref sig .tc := ⟨.hbm, 190, rfl⟩
abbrev main_while0b_v177 : Ref sig .tc := ⟨.hbm, 191, rfl⟩
abbrev main_while0b_cst_25 : Ref sig .tc := ⟨.hbm, 192, rfl⟩
abbrev main_while0b_v178 : Ref sig .tc := ⟨.hbm, 193, rfl⟩
abbrev main_while0b_v179 : Ref sig .tc := ⟨.hbm, 194, rfl⟩
abbrev main_while0b_v180 : Ref sig .tc := ⟨.hbm, 195, rfl⟩
abbrev main_while0b_call8_v0 : Ref sig .tc := ⟨.hbm, 196, rfl⟩
abbrev main_while0b_v181 : Ref sig .tc := ⟨.hbm, 197, rfl⟩
abbrev main_while0b_v182 : Ref sig .tc := ⟨.hbm, 198, rfl⟩
abbrev main_while0b_v183 : Ref sig .tc := ⟨.hbm, 199, rfl⟩
abbrev main_while0b_v184 : Ref sig .tc := ⟨.hbm, 200, rfl⟩
abbrev main_while0b_v185 : Ref sig .tc := ⟨.hbm, 201, rfl⟩
abbrev main_while0b_cst_26 : Ref sig .tc := ⟨.hbm, 202, rfl⟩
abbrev main_while0b_v186 : Ref sig .tc := ⟨.hbm, 203, rfl⟩
abbrev main_while0b_v187 : Ref sig .tc := ⟨.hbm, 204, rfl⟩
abbrev main_while0b_v188 : Ref sig .tc := ⟨.hbm, 205, rfl⟩
abbrev main_while0b_cst_27 : Ref sig .tc := ⟨.hbm, 206, rfl⟩
abbrev main_while0b_v189 : Ref sig .tc := ⟨.hbm, 207, rfl⟩
abbrev main_while0b_v190 : Ref sig .tc := ⟨.hbm, 208, rfl⟩
abbrev main_while0b_v191 : Ref sig .tc := ⟨.hbm, 209, rfl⟩
abbrev main_while0b_v192 : Ref sig .tc := ⟨.hbm, 210, rfl⟩
abbrev main_while0b_v193 : Ref sig .tc := ⟨.hbm, 211, rfl⟩
abbrev main_while0b_v194 : Ref sig .tc := ⟨.hbm, 212, rfl⟩
abbrev main_while0b_v195 : Ref sig .tc := ⟨.hbm, 213, rfl⟩
abbrev main_while0b_v196 : Ref sig .tc := ⟨.hbm, 214, rfl⟩
abbrev main_while0b_v197 : Ref sig .tc := ⟨.hbm, 215, rfl⟩
abbrev main_while0b_v198 : Ref sig .tc := ⟨.hbm, 216, rfl⟩
abbrev main_while0b_v199 : Ref sig .tc := ⟨.hbm, 217, rfl⟩
abbrev main_while0b_v200 : Ref sig .tc := ⟨.hbm, 218, rfl⟩
abbrev main_while0b_cst_28 : Ref sig .tc := ⟨.hbm, 219, rfl⟩
abbrev main_while0b_call9_v0 : Ref sig .tc := ⟨.hbm, 220, rfl⟩
abbrev main_while0b_call9_v1 : Ref sig .tc := ⟨.hbm, 221, rfl⟩
abbrev main_while0b_call9_v2 : Ref sig .tc := ⟨.hbm, 222, rfl⟩
abbrev main_while0b_v201 : Ref sig .tc := ⟨.hbm, 223, rfl⟩
abbrev main_while0b_call10_v0 : Ref sig .tc := ⟨.hbm, 224, rfl⟩
abbrev main_while0b_call10_c : Ref sig .tc := ⟨.hbm, 225, rfl⟩
abbrev main_while0b_v202 : Ref sig .tc := ⟨.hbm, 226, rfl⟩
abbrev main_while0b_call11_v0 : Ref sig .tc := ⟨.hbm, 227, rfl⟩
abbrev main_while0b_call11_c : Ref sig .tc := ⟨.hbm, 228, rfl⟩
abbrev main_while0b_v203 : Ref sig .tc := ⟨.hbm, 229, rfl⟩
abbrev main_while0b_c_29 : Ref sig .tc := ⟨.hbm, 230, rfl⟩
abbrev main_while0b_v204 : Ref sig .tc := ⟨.hbm, 231, rfl⟩
abbrev main_c_11 : Ref sig .tc := ⟨.hbm, 232, rfl⟩
abbrev main_v110 : Ref sig .tc := ⟨.hbm, 233, rfl⟩
abbrev main_v111 : Ref sig .tc := ⟨.hbm, 234, rfl⟩
abbrev main_c_12 : Ref sig .tc := ⟨.hbm, 235, rfl⟩
abbrev main_v112 : Ref sig .tc := ⟨.hbm, 236, rfl⟩
abbrev main_v113 : Ref sig .tc := ⟨.hbm, 237, rfl⟩
abbrev main_v114 : Ref sig .tc := ⟨.hbm, 238, rfl⟩
abbrev main_v115 : Ref sig .tc := ⟨.hbm, 239, rfl⟩
abbrev main_v116 : Ref sig .tc := ⟨.hbm, 240, rfl⟩
abbrev main_v117 : Ref sig .tc := ⟨.hbm, 241, rfl⟩
abbrev main_c_13 : Ref sig .tc := ⟨.hbm, 242, rfl⟩
abbrev main_v118 : Ref sig .tc := ⟨.hbm, 243, rfl⟩
abbrev main_v119 : Ref sig .tc := ⟨.hbm, 244, rfl⟩
abbrev main_c_14 : Ref sig .tc := ⟨.hbm, 245, rfl⟩
abbrev main_v120 : Ref sig .tc := ⟨.hbm, 246, rfl⟩
abbrev main_v121 : Ref sig .tc := ⟨.hbm, 247, rfl⟩
abbrev main_v122 : Ref sig .tc := ⟨.hbm, 248, rfl⟩
abbrev main_v123 : Ref sig .tc := ⟨.hbm, 249, rfl⟩
abbrev main_v124 : Ref sig .tc := ⟨.hbm, 250, rfl⟩
abbrev main_v125 : Ref sig .tc := ⟨.hbm, 251, rfl⟩
abbrev main_v126 : Ref sig .tc := ⟨.hbm, 252, rfl⟩
abbrev main_v127 : Ref sig .tc := ⟨.hbm, 253, rfl⟩
abbrev main_c_15 : Ref sig .tc := ⟨.hbm, 254, rfl⟩
abbrev main_v128 : Ref sig .tc := ⟨.hbm, 255, rfl⟩
abbrev main_v129 : Ref sig .tc := ⟨.hbm, 256, rfl⟩
abbrev main_c_16 : Ref sig .tc := ⟨.hbm, 257, rfl⟩
abbrev main_v130 : Ref sig .tc := ⟨.hbm, 258, rfl⟩
abbrev main_v131 : Ref sig .tc := ⟨.hbm, 259, rfl⟩
abbrev main_v132 : Ref sig .tc := ⟨.hbm, 260, rfl⟩
abbrev main_v133 : Ref sig .tc := ⟨.hbm, 261, rfl⟩
abbrev main_v134 : Ref sig .tc := ⟨.hbm, 262, rfl⟩
abbrev main_v135 : Ref sig .tc := ⟨.hbm, 263, rfl⟩
abbrev main_v136 : Ref sig .tc := ⟨.hbm, 264, rfl⟩
abbrev main_v137 : Ref sig .tc := ⟨.hbm, 265, rfl⟩
abbrev main_v138 : Ref sig .tc := ⟨.hbm, 266, rfl⟩
abbrev main_v139 : Ref sig .tc := ⟨.hbm, 267, rfl⟩
abbrev main_cst_17 : Ref sig .tc := ⟨.hbm, 268, rfl⟩
abbrev main_call12_v0 : Ref sig .tc := ⟨.hbm, 269, rfl⟩
abbrev main_call12_v1 : Ref sig .tc := ⟨.hbm, 270, rfl⟩
abbrev main_call12_v2 : Ref sig .tc := ⟨.hbm, 271, rfl⟩
abbrev main_call12_v3 : Ref sig .tc := ⟨.hbm, 272, rfl⟩
abbrev main_v140 : Ref sig .tc := ⟨.hbm, 273, rfl⟩

abbrev nD : Nat := 1
abbrev τ : Topo := Topo.v7x

variable {F : FTy → Type} [FloatOps F]

abbrev main_while0_count : Scf.Loop 32 := ⟨0#32, 100#32, 1#32⟩
-- ==== Proof.RunKernelIdeal.lean ====
/-
  The kernel's launch: what its body leaves in the result's staging buffer as a function of the two staged inputs (the
  hundred-trip loop as the fold of its region's function), and the run of the whole program around it.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic
public import Idealize.ShloMosaic.Lib.Pipeline.FrameBody
public import Idealize.ShloMosaic.Lib.Pipeline.FrameSuffix

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's function -/

/-- Row `k` of the staged boxes (their four coordinates) and of the staged class columns (four deltas, class id, score). -/
abbrev bx0 : Rect S4x4x5120 := Rect.unit (s := S4x4x5120) ![0, 0, 0] S4x1x5120.size inb_S4x4x5120_S4x1x5120_0_0_0
/-- Row 1 of the staged boxes. -/
abbrev bx1 : Rect S4x4x5120 := Rect.unit (s := S4x4x5120) ![0, 1, 0] S4x1x5120.size inb_S4x4x5120_S4x1x5120_0_1_0
/-- Row 2 of the staged boxes. -/
abbrev bx2 : Rect S4x4x5120 := Rect.unit (s := S4x4x5120) ![0, 2, 0] S4x1x5120.size inb_S4x4x5120_S4x1x5120_0_2_0
/-- Row 3 of the staged boxes. -/
abbrev bx3 : Rect S4x4x5120 := Rect.unit (s := S4x4x5120) ![0, 3, 0] S4x1x5120.size inb_S4x4x5120_S4x1x5120_0_3_0
/-- Row 0 of the staged columns. -/
abbrev cl0 : Rect S4x6x5120 := Rect.unit (s := S4x6x5120) ![0, 0, 0] S4x1x5120.size inb_S4x6x5120_S4x1x5120_0_0_0
/-- Row 1 of the staged columns. -/
abbrev cl1 : Rect S4x6x5120 := Rect.unit (s := S4x6x5120) ![0, 1, 0] S4x1x5120.size inb_S4x6x5120_S4x1x5120_0_1_0
/-- Row 2 of the staged columns. -/
abbrev cl2 : Rect S4x6x5120 := Rect.unit (s := S4x6x5120) ![0, 2, 0] S4x1x5120.size inb_S4x6x5120_S4x1x5120_0_2_0
/-- Row 3 of the staged columns. -/
abbrev cl3 : Rect S4x6x5120 := Rect.unit (s := S4x6x5120) ![0, 3, 0] S4x1x5120.size inb_S4x6x5120_S4x1x5120_0_3_0
/-- Row 4 of the staged columns. -/
abbrev cl4 : Rect S4x6x5120 := Rect.unit (s := S4x6x5120) ![0, 4, 0] S4x1x5120.size inb_S4x6x5120_S4x1x5120_0_4_0
/-- Row 5 of the staged columns. -/
abbrev cl5 : Rect S4x6x5120 := Rect.unit (s := S4x6x5120) ![0, 5, 0] S4x1x5120.size inb_S4x6x5120_S4x1x5120_0_5_0
/-- The whole result. -/
abbrev outR : Rect S4x6x128 := Rect.unit (s := S4x6x128) ![0, 0, 0] S4x6x128.size inb_S4x6x128_S4x6x128_0_0_0

/-- The class ids, the raw scores and the refined, clipped box coordinates `y1`, `x1`, `y2`, `x2`, over the two staged
    inputs. -/
def cls (x1 : Vec F S4x6x5120 .f32) : FVec F S4x5120 .f32 := k0_pay26 (View.ld x1 cl4)
/-- The raw scores. -/
def raw (x1 : Vec F S4x6x5120 .f32) : FVec F S4x5120 .f32 := k0_pay27 (View.ld x1 cl5)
/-- The coordinate `y1`. -/
def ry1 (x0 : Vec F S4x4x5120 .f32) (x1 : Vec F S4x6x5120 .f32) : FVec F S4x5120 .f32 :=
  k0_pay34 (k0_pay18 (View.ld x0 bx0)) (k0_pay20 (View.ld x0 bx2)) (k0_pay22 (View.ld x1 cl0)) (k0_pay24 (View.ld x1 cl2))
/-- The coordinate `x1`. -/
def rx1 (x0 : Vec F S4x4x5120 .f32) (x1 : Vec F S4x6x5120 .f32) : FVec F S4x5120 .f32 :=
  k0_pay35 (k0_pay19 (View.ld x0 bx1)) (k0_pay21 (View.ld x0 bx3)) (k0_pay23 (View.ld x1 cl1)) (k0_pay25 (View.ld x1 cl3))
/-- The coordinate `y2`. -/
def ry2 (x0 : Vec F S4x4x5120 .f32) (x1 : Vec F S4x6x5120 .f32) : FVec F S4x5120 .f32 :=
  k0_pay36 (k0_pay18 (View.ld x0 bx0)) (k0_pay20 (View.ld x0 bx2)) (k0_pay22 (View.ld x1 cl0)) (k0_pay24 (View.ld x1 cl2))
/-- The coordinate `x2`. -/
def rx2 (x0 : Vec F S4x4x5120 .f32) (x1 : Vec F S4x6x5120 .f32) : FVec F S4x5120 .f32 :=
  k0_pay37 (k0_pay19 (View.ld x0 bx1)) (k0_pay21 (View.ld x0 bx3)) (k0_pay23 (View.ld x1 cl1)) (k0_pay25 (View.ld x1 cl3))

/-- The lane numbers. -/
def lanes : IVec S4x5120 32 := iota .tc S4x5120 32 [1] iota_S4x5120_d1_w32

/-- One trip: from the scores and the detections so far to the next ones. -/
def step (v25 v27 v55 v59 v63 v67 : FVec F S4x5120 .f32) (k : Fin k0_t1_loop.trips) (sa : FVec F S4x5120 .f32 × FVec F S4x6x128 .f32) :
    FVec F S4x5120 .f32 × FVec F S4x6x128 .f32 :=
  (k0_pay9 sa.1 (k0_pay12 lanes 5121#32 sa.1) (k0_pay14 sa.1)
      (k0_pay15 (k0_pay3 v25 v55) (k0_pay4 v25 v59) (k0_pay5 v25 v63) (k0_pay6 v25 v67) lanes 5121#32 sa.1)
      (k0_pay16 (k0_pay3 v25 v55) (k0_pay4 v25 v59) (k0_pay5 v25 v63) (k0_pay6 v25 v67) (k0_pay7 v25 v55 v59 v63 v67) lanes 5121#32 sa.1)
      (k0_pay17 (F := F)),
    k0_pay10 v25 v27 v55 v59 v63 v67 sa.2 (Scf.iv 0#32 1#32 k) (k0_pay12 lanes 5121#32 sa.1) (k0_pay13 (F := F)) (k0_pay14 sa.1))

set_option maxRecDepth 65536 in
/-- The loop's region has no effect: it returns `step`. -/
theorem body_eq (arg0 : Memref sig .tc .vmem S4x4x5120 .f32) (harg0 : arg0.IsWhole) (arg1 : Memref sig .tc .vmem S4x6x5120 .f32) (harg1 : arg1.IsWhole)
    (arg2 : Memref sig .tc .vmem S4x6x128 .f32) (harg2 : arg2.IsWhole) (v25 v27 v55 v59 v63 v67 : FVec F S4x5120 .f32) :
    k0_t1_body arg0 harg0 arg1 harg1 arg2 harg2 v25 v27 v55 v59 v63 v67 lanes = fun k sa => pure (step v25 v27 v55 v59 v63 v67 k sa) := by
  funext k sa
  obtain ⟨s, a⟩ := sa
  unfold k0_t1_body
  simp only [k0_part1_eq_skeleton]
  rfl

/-- The scores the loop starts from: the raw score of a kept box, -1 of every other. -/
def scores0 (x1 : Vec F S4x6x5120 .f32) : FVec F S4x5120 .f32 := k0_pay1 (raw x1) (k0_pay38 (cls x1)) (k0_pay39 (F := F))

/-- The scores and the detections after every trip. -/
def carried (x0 : Vec F S4x4x5120 .f32) (x1 : Vec F S4x6x5120 .f32) : FVec F S4x5120 .f32 × FVec F S4x6x128 .f32 :=
  Scf.fold (step (cls x1) (raw x1) (ry1 x0 x1) (rx1 x0 x1) (ry2 x0 x1) (rx2 x0 x1)) (scores0 x1, k0_pay8 (F := F))

/-- What the body stores. -/
def out0_2 (x0 : Vec F S4x4x5120 .f32) (x1 : Vec F S4x6x5120 .f32) : Vec F S4x6x128 .f32 :=
  View.canon [⟨outR, (carried x0 x1).2⟩]

/-- The one store covers the result's buffer. -/
theorem cover0_2 (p0 : Vec F S4x6x128 .f32) (y : S4x6x128.Idx) : ∃ pc ∈ ([⟨outR, p0⟩] : List (View.Piece (Elt F) S4x6x128 .f32)), y ∈ pc.1.set :=
  View.cover_of_tiled [⟨outR, p0⟩] S4x6x128.size (by rfl) y

set_option maxHeartbeats 1000000 in
/-- The body, from its two inputs held at `x0` and `x1` and the result's buffer at anything: it hands the inputs back and
    leaves `out0_2 x0 x1` in the result's buffer. -/
theorem sound_kernel (c : Dev nD) (E : Set ℕ) (arg0 : Memref sig .tc .vmem S4x4x5120 .f32) (harg0 : arg0.IsWhole) (arg1 : Memref sig .tc .vmem S4x6x5120 .f32) (harg1 : arg1.IsWhole)
    (arg2 : Memref sig .tc .vmem S4x6x128 .f32) (harg2 : arg2.IsWhole)
    (x0 : Vec F S4x4x5120 .f32) (x1 : Vec F S4x6x5120 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__nms_kernel arg0 harg0 arg1 harg1 arg2 harg2) K := by
  simp only [cc0__nms_kernel_eq_skeleton]; unfold cc0__nms_kernel_skel
  simp only [k0_part2_eq_skeleton, k0_part3_eq_skeleton]; unfold k0_part2_skel k0_part3_skel
  rw [show (iota .tc S4x5120 32 [1] iota_S4x5120_d1_w32) = lanes from rfl]
  simp only [body_eq]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data and the run -/

/-- The pipeline's proof data: each input's block stays, the result's block ends at `out0_2` of the inputs'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The arrays start as the region finds them. -/
theorem A_eq (c : Dev nD) (w : Fin cfg0.W) : (dats (F := F) m 0 c).A w = V m c (Pipeline.arrRef spec0 w) := rfl
/-- The boxes' block stays. -/
theorem after0_0 (c : Dev nD) (t : Fin cfg0.N) : (dats (F := F) m 0 c).after 0 t = iblk m c 0 t := by dsimp only [dats]
/-- The columns' block stays. -/
theorem after0_1 (c : Dev nD) (t : Fin cfg0.N) : (dats (F := F) m 0 c).after 1 t = iblk m c 1 t := by dsimp only [dats]
/-- The result's block ends at `out0_2`. -/
theorem after0_2 (c : Dev nD) (t : Fin cfg0.N) : (dats (F := F) m 0 c).after 2 t = out0_2 (iblk m c 0 t) (iblk m c 1 t) := by dsimp only [dats]

/-- The body finds the staged boxes. -/
theorem before0_0 (c : Dev nD) (t : Fin cfg0.N) (d) : (dats (F := F) m 0 c).before 0 t d = iblk m c 0 t :=
  before0_0_of m (dats (F := F) m 0 c) (A_eq m c 0) (after0_0 m c) t d
/-- The body finds the staged columns. -/
theorem before0_1 (c : Dev nD) (t : Fin cfg0.N) (d) : (dats (F := F) m 0 c).before 1 t d = iblk m c 1 t :=
  before0_1_of m (dats (F := F) m 0 c) (A_eq m c 1) (after0_1 m c) t d

/-- What the body finds at a point. -/
def bodyPre (c : Dev nD) (t : Fin cfg0.N) : sProp 𝕄 :=
  iprop((dats (F := F) m 0 c).Φ t.castSucc ∗ (dats (F := F) m 0 c).owesAt () t.castSucc
    ∗ (∃ d, owns (c : Thread nD τ) (st0_0 t) fullShare ((dats (F := F) m 0 c).before 0 t d))
    ∗ (∃ d, owns (c : Thread nD τ) (st0_1 t) fullShare ((dats (F := F) m 0 c).before 1 t d))
    ∗ (∃ d, owns (c : Thread nD τ) (st0_2 t) fullShare ((dats (F := F) m 0 c).before 2 t d)))

/-- What it leaves there. -/
def bodyPost (c : Dev nD) (t : Fin cfg0.N) : sProp 𝕄 :=
  iprop((dats (F := F) m 0 c).Φ t.succ ∗ (dats (F := F) m 0 c).owesAt () t.succ
    ∗ owns (c : Thread nD τ) (st0_0 t) fullShare ((dats (F := F) m 0 c).after 0 t)
    ∗ owns (c : Thread nD τ) (st0_1 t) fullShare ((dats (F := F) m 0 c).after 1 t)
    ∗ owns (c : Thread nD τ) (st0_2 t) fullShare ((dats (F := F) m 0 c).after 2 t))

/-- The body, from what it finds at a point to what it leaves there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats (F := F) m 0 c).Φ t.succ = (dats (F := F) m 0 c).Φ t.castSucc from rfl,
    show (dats (F := F) m 0 c).owesAt () t.succ = (dats (F := F) m 0 c).owesAt () t.castSucc from rfl, after0_0, after0_1, after0_2]
  iintro ⟨HΦ, Ho, ⟨%d0, H0⟩, ⟨%d1, H1⟩, ⟨%d2, H2⟩⟩
  iapply (sound_kernel c Set.univ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body does at every point what the proof data say. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The run: the program terminates, every array and every other unscoped buffer ends at what the host operations after
    the launch make of the launch's arrays, and every semaphore counter is back at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hΦ := fun _ _ => rfl)
    (Q' := fun r => Pipeline.FramePost cfgs (dats m) 0 (Pipeline.afterTail₀ cfgs (dats m) 0 (V0 m) [hostOps1]) r ∧ r.2.sem = fun _ => 0)
    (hQ' := fun _ h => h)

end Cert.KernelIdeal.Body

end
-- ==== Proof.RefOps.lean ====
/-
  The reference's operations as lists, one per stretch between two calls, and its main function and loop body as those lists run in order.
-/
module

public import proofs.«01_k».proof.Proof.Gen.ReferenceIdeal
public import Idealize.ShloMosaic.Lib.Pipeline.Kit
public import Idealize.ShloMosaic.Lib.Pipeline.Regions
public import Idealize.ShloMosaic.Lib.StableHlo.RunLoop
public import Idealize.ShloMosaic.Lib.StableHlo.ReadAt

@[expose] public section

set_option maxRecDepth 16384

noncomputable section

namespace Cert.ReferenceIdeal.Body

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

/-- @main before the loop, stretch 0: 60 operations. -/
abbrev pre0 : List (HloOp τ sig (Elt F)) :=
  [ StableHlo.nullary main_cst (fun i => FloatOps.ofBits .f32 (lit0 (S4.rowMajor i))),
    StableHlo.nullary main_cst_0 (fun i => FloatOps.ofBits .f32 (lit1 (S4.rowMajor i))),
    StableHlo.unary main_arg1 main_v0 ((extractStridedSlice S4x5000x1 ![0, 0, 4] · slices_S4x5000x6_S4x5000x1_0_0_4) : (⟨S4x5000x6, .f32⟩ : BufTy).Contents (Elt F) → (⟨S4x5000x1, .f32⟩ : BufTy).Contents (Elt F)),
    StableHlo.reshape main_v0 main_v1 (rfl : (.f32 : EltTy) = .f32) shapeCasts_S4x5000x1_S4x5000,
    StableHlo.unary main_v1 main_v2 (fptosi 32 : (⟨S4x5000, .f32⟩ : BufTy).Contents (Elt F) → (⟨S4x5000, .i32⟩ : BufTy).Contents (Elt F)),
    StableHlo.unary main_arg1 main_v3 ((extractStridedSlice S4x5000x4 ![0, 0, 0] · slices_S4x5000x6_S4x5000x4_0_0_0) : (⟨S4x5000x6, .f32⟩ : BufTy).Contents (Elt F) → (⟨S4x5000x4, .f32⟩ : BufTy).Contents (Elt F)),
    StableHlo.unary main_arg1 main_v4 ((extractStridedSlice S4x5000x1 ![0, 0, 5] · slices_S4x5000x6_S4x5000x1_0_0_5) : (⟨S4x5000x6, .f32⟩ : BufTy).Contents (Elt F) → (⟨S4x5000x1, .f32⟩ : BufTy).Contents (Elt F)),
    StableHlo.reshape main_v4 main_v5 (rfl : (.f32 : EltTy) = .f32) shapeCasts_S4x5000x1_S4x5000,
    StableHlo.unary main_cst main_v6 (broadcastInDim S1x4 ![1] bcast_S4_S1x4_1 : (⟨S4, .f32⟩ : BufTy).Contents (Elt F) → (⟨S1x4, .f32⟩ : BufTy).Contents (Elt F)),
    StableHlo.unary main_v6 main_v7 (broadcastInDim S1x1x4 ![1, 2] bcast_S1x4_S1x1x4_1_2 : (⟨S1x4, .f32⟩ : BufTy).Contents (Elt F) → (⟨S1x1x4, .f32⟩ : BufTy).Contents (Elt F)),
    StableHlo.unary main_v7 main_v8 (broadcastInDim S4x5000x4 ![0, 1, 2] bcast_S1x1x4_S4x5000x4_0_1_2 : (⟨S1x1x4, .f32⟩ : BufTy).Contents (Elt F) → (⟨S4x5000x4, .f32⟩ : BufTy).Contents (Elt F)),
    StableHlo.binary main_v3 main_v8 main_v9 (mulf : (⟨S4x5000x4, .f32⟩ : BufTy).Contents (Elt F) → (⟨S4x5000x4, .f32⟩ : BufTy).Contents (Elt F) → (⟨S4x5000x4, .f32⟩ : BufTy).Contents (Elt F)),
    StableHlo.unary main_arg0 main_v10 ((extractStridedSlice S4x5000x1 ![0, 0, 2] · slices_S4x5000x4_S4x5000x1_0_0_2) : (⟨S4x5000x4, .f32⟩ : BufTy).Contents (Elt F) → (⟨S4x5000x1, .f32⟩ : BufTy).Contents (Elt F)),
    StableHlo.reshape main_v10 main_v11 (rfl : (.f32 : EltTy) = .f32) shapeCasts_S4x5000x1_S4x5000,
    StableHlo.unary main_arg0 main_v12 ((extractStridedSlice S4x5000x1 ![0, 0, 0] · slices_S4x5000x4_S4x5000x1_0_0_0) : (⟨S4x5000x4, .f32⟩ : BufTy).Contents (Elt F) → (⟨S4x5000x1, .f32⟩ : BufTy).Contents (Elt F)),
    StableHlo.reshape main_v12 main_v13 (rfl : (.f32 : EltTy) = .f32) shapeCasts_S4x5000x1_S4x5000,
    StableHlo.binary main_v11 main_v13 main_v14 (subf : (⟨S4x5000, .f32⟩ : BufTy).Contents (Elt F) → (⟨S4x5000, .f32⟩ : BufTy).Contents (Elt F) → (⟨S4x5000, .f32⟩ : BufTy).Contents (Elt F)),
    StableHlo.unary main_arg0 main_v15 ((extractStridedSlice S4x5000x1 ![0, 0, 3] · slices_S4x5000x4_S4x5000x1_0_0_3) : (⟨S4x5000x4, .f32⟩ : BufTy).Contents (Elt F) → (⟨S4x5000x1, .f32⟩ : BufTy).Contents (Elt F)),
    StableHlo.reshape main_v15 main_v16 (rfl : (.f32 : EltTy) = .f32) shapeCasts_S4x5000x1_S4x5000,
    StableHlo.unary main_arg0 main_v17 ((extractStridedSlice S4x5000x1 ![0, 0, 1] · slices_S4x5000x4_S4x5000x1_0_0_1) : (⟨S4x5000x4, .f32⟩ : BufTy).Contents (Elt F) → (⟨S4x5000x1, .f32⟩ : BufTy).Contents (Elt F)),
    StableHlo.reshape main_v17 main_v18 (rfl : (.f32 : EltTy) = .f32) shapeCasts_S4x5000x1_S4x5000,
    StableHlo.binary main_v16 main_v18 main_v19 (subf : (⟨S4x5000, .f32⟩ : BufTy).Contents (Elt F) → (⟨S4x5000, .f32⟩ : BufTy).Contents (Elt F) → (⟨S4x5000, .f32⟩ : BufTy).Contents (Elt F)),
    StableHlo.unary main_arg0 main_v20 ((extractStridedSlice S4x5000x1 ![0, 0, 0] · slices_S4x5000x4_S4x5000x1_0_0_0) : (⟨S4x5000x4, .f32⟩ : BufTy).Contents (Elt F) → (⟨S4x5000x1, .f32⟩ : BufTy).Contents (Elt F)),
    StableHlo.reshape main_v20 main_v21 (rfl : (.f32 : EltTy) = .f32) shapeCasts_S4x5000x1_S4x5000,
    StableHlo.nullary main_cst_1 (constant S_ .f32 0x3F000000#32),
    StableHlo.unary main_cst_1 main_v22 (broadcastInDim S4x5000 ![] bcast_S_S4x5000 : (⟨S_, .f32⟩ : BufTy).Contents (Elt F) → (⟨S4x5000, .f32⟩ : BufTy).Contents (Elt F)),
    StableHlo.binary main_v22 main_v14 main_v23 (mulf : (⟨S4x5000, .f32⟩ : BufTy).Contents (Elt F) → (⟨S4x5000, .f32⟩ : BufTy).Contents (Elt F) → (⟨S4x5000, .f32⟩ : BufTy).Contents (Elt F)),
    StableHlo.binary main_v21 main_v23 main_v24 (addf : (⟨S4x5000, .f32⟩ : BufTy).Contents (Elt F) → (⟨S4x5000, .f32⟩ : BufTy).Contents (Elt F) → (⟨S4x5000, .f32⟩ : BufTy).Contents (Elt F)),
    StableHlo.unary main_arg0 main_v25 ((extractStridedSlice S4x5000x1 ![0, 0, 1] · slices_S4x5000x4_S4x5000x1_0_0_1) : (⟨S4x5000x4, .f32⟩ : BufTy).Contents (Elt F) → (⟨S4x5000x1, .f32⟩ : BufTy).Contents (Elt F)),
    StableHlo.reshape main_v25 main_v26 (rfl : (.f32 : EltTy) = .f32) shapeCasts_S4x5000x1_S4x5000,
    StableHlo.nullary main_cst_2 (constant S_ .f32 0x3F000000#32),
    StableHlo.unary main_cst_2 main_v27 (broadcastInDim S4x5000 ![] bcast_S_S4x5000 : (⟨S_, .f32⟩ : BufTy).Contents (Elt F) → (⟨S4x5000, .f32⟩ : BufTy).Contents (Elt F)),
    StableHlo.binary main_v27 main_v19 main_v28 (mulf : (⟨S4x5000, .f32⟩ : BufTy).Contents (Elt F) → (⟨S4x5000, .f32⟩ : BufTy).Contents (Elt F) → (⟨S4x5000, .f32⟩ : BufTy).Contents (Elt F)),
    StableHlo.binary main_v26 main_v28 main_v29 (addf : (⟨S4x5000, .f32⟩ : BufTy).Contents (Elt F) → (⟨S4x5000, .f32⟩ : BufTy).Contents (Elt F) → (⟨S4x5000, .f32⟩ : BufTy).Contents (Elt F)),
    StableHlo.unary main_v9 main_v30 ((extractStridedSlice S4x5000x1 ![0, 0, 0] · slices_S4x5000x4_S4x5000x1_0_0_0) : (⟨S4x5000x4, .f32⟩ : BufTy).Contents (Elt F) → (⟨S4x5000x1, .f32⟩ : BufTy).Contents (Elt F)),
    StableHlo.reshape main_v30 main_v31 (rfl : (.f32 : EltTy) = .f32) shapeCasts_S4x5000x1_S4x5000,
    StableHlo.binary main_v31 main_v14 main_v32 (mulf : (⟨S4x5000, .f32⟩ : BufTy).Contents (Elt F) → (⟨S4x5000, .f32⟩ : BufTy).Contents (Elt F) → (⟨S4x5000, .f32⟩ : BufTy).Contents (Elt F)),
    StableHlo.binary main_v24 main_v32 main_v33 (addf : (⟨S4x5000, .f32⟩ : BufTy).Contents (Elt F) → (⟨S4x5000, .f32⟩ : BufTy).Contents (Elt F) → (⟨S4x5000, .f32⟩ : BufTy).Contents (Elt F)),
    StableHlo.unary main_v9 main_v34 ((extractStridedSlice S4x5000x1 ![0, 0, 1] · slices_S4x5000x4_S4x5000x1_0_0_1) : (⟨S4x5000x4, .f32⟩ : BufTy).Contents (Elt F) → (⟨S4x5000x1, .f32⟩ : BufTy).Contents (Elt F)),
    StableHlo.reshape main_v34 main_v35 (rfl : (.f32 : EltTy) = .f32) shapeCasts_S4x5000x1_S4x5000,
    StableHlo.binary main_v35 main_v19 main_v36 (mulf : (⟨S4x5000, .f32⟩ : BufTy).Contents (Elt F) → (⟨S4x5000, .f32⟩ : BufTy).Contents (Elt F) → (⟨S4x5000, .f32⟩ : BufTy).Contents (Elt F)),
    StableHlo.binary main_v29 main_v36 main_v37 (addf : (⟨S4x5000, .f32⟩ : BufTy).Contents (Elt F) → (⟨S4x5000, .f32⟩ : BufTy).Contents (Elt F) → (⟨S4x5000, .f32⟩ : BufTy).Contents (Elt F)),
    StableHlo.unary main_v9 main_v38 ((extractStridedSlice S4x5000x1 ![0, 0, 2] · slices_S4x5000x4_S4x5000x1_0_0_2) : (⟨S4x5000x4, .f32⟩ : BufTy).Contents (Elt F) → (⟨S4x5000x1, .f32⟩ : BufTy).Contents (Elt F)),
    StableHlo.reshape main_v38 main_v39 (rfl : (.f32 : EltTy) = .f32) shapeCasts_S4x5000x1_S4x5000,
    StableHlo.unary main_v39 main_v40 (Host.exp : (⟨S4x5000, .f32⟩ : BufTy).Contents (Elt F) → (⟨S4x5000, .f32⟩ : BufTy).Contents (Elt F)),
    StableHlo.binary main_v14 main_v40 main_v41 (mulf : (⟨S4x5000, .f32⟩ : BufTy).Contents (Elt F) → (⟨S4x5000, .f32⟩ : BufTy).Contents (Elt F) → (⟨S4x5000, .f32⟩ : BufTy).Contents (Elt F)),
    StableHlo.unary main_v9 main_v42 ((extractStridedSlice S4x5000x1 ![0, 0, 3] · slices_S4x5000x4_S4x5000x1_0_0_3) : (⟨S4x5000x4, .f32⟩ : BufTy).Contents (Elt F) → (⟨S4x5000x1, .f32⟩ : BufTy).Contents (Elt F)),
    StableHlo.reshape main_v42 main_v43 (rfl : (.f32 : EltTy) = .f32) shapeCasts_S4x5000x1_S4x5000,
    StableHlo.unary main_v43 main_v44 (Host.exp : (⟨S4x5000, .f32⟩ : BufTy).Contents (Elt F) → (⟨S4x5000, .f32⟩ : BufTy).Contents (Elt F)),
    StableHlo.binary main_v19 main_v44 main_v45 (mulf : (⟨S4x5000, .f32⟩ : BufTy).Contents (Elt F) → (⟨S4x5000, .f32⟩ : BufTy).Contents (Elt F) → (⟨S4x5000, .f32⟩ : BufTy).Contents (Elt F)),
    StableHlo.nullary main_cst_3 (constant S_ .f32 0x3F000000#32),
    StableHlo.unary main_cst_3 main_v46 (broadcastInDim S4x5000 ![] bcast_S_S4x5000 : (⟨S_, .f32⟩ : BufTy).Contents (Elt F) → (⟨S4x5000, .f32⟩ : BufTy).Contents (Elt F)),
    StableHlo.binary main_v46 main_v41 main_v47 (mulf : (⟨S4x5000, .f32⟩ : BufTy).Contents (Elt F) → (⟨S4x5000, .f32⟩ : BufTy).Contents (Elt F) → (⟨S4x5000, .f32⟩ : BufTy).Contents (Elt F)),
    StableHlo.binary main_v33 main_v47 main_v48 (subf : (⟨S4x5000, .f32⟩ : BufTy).Contents (Elt F) → (⟨S4x5000, .f32⟩ : BufTy).Contents (Elt F) → (⟨S4x5000, .f32⟩ : BufTy).Contents (Elt F)),
    StableHlo.nullary main_cst_4 (constant S_ .f32 0x3F000000#32),
    StableHlo.unary main_cst_4 main_v49 (broadcastInDim S4x5000 ![] bcast_S_S4x5000 : (⟨S_, .f32⟩ : BufTy).Contents (Elt F) → (⟨S4x5000, .f32⟩ : BufTy).Contents (Elt F)),
    StableHlo.binary main_v49 main_v45 main_v50 (mulf : (⟨S4x5000, .f32⟩ : BufTy).Contents (Elt F) → (⟨S4x5000, .f32⟩ : BufTy).Contents (Elt F) → (⟨S4x5000, .f32⟩ : BufTy).Contents (Elt F)),
    StableHlo.binary main_v37 main_v50 main_v51 (subf : (⟨S4x5000, .f32⟩ : BufTy).Contents (Elt F) → (⟨S4x5000, .f32⟩ : BufTy).Contents (Elt F) → (⟨S4x5000, .f32⟩ : BufTy).Contents (Elt F)),
    StableHlo.binary main_v48 main_v41 main_v52 (addf : (⟨S4x5000, .f32⟩ : BufTy).Contents (Elt F) → (⟨S4x5000, .f32⟩ : BufTy).Contents (Elt F) → (⟨S4x5000, .f32⟩ : BufTy).Contents (Elt F)),
    StableHlo.binary main_v51 main_v45 main_v53 (addf : (⟨S4x5000, .f32⟩ : BufTy).Contents (Elt F) → (⟨S4x5000, .f32⟩ : BufTy).Contents (Elt F) → (⟨S4x5000, .f32⟩ : BufTy).Contents (Elt F)) ]
/-- Stretch `pre0` touches TensorCore references only. -/
theorem pre0_sub : (pre0 : List (HloOp τ sig (Elt F))).Forall fun op => op.bufs ⊆ StableHlo.tcRefs τ sig :=
  ⟨StableHlo.nullary_bufs_sub .., StableHlo.nullary_bufs_sub .., StableHlo.unary_bufs_sub .., StableHlo.reshape_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub ..⟩

/-- @main before the loop, stretch 1: 15 operations. -/
abbrev pre1 : List (HloOp τ sig (Elt F)) :=
  [ StableHlo.unary main_v48 main_v54 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v51 main_v55 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v52 main_v56 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v53 main_v57 (broadcastInDim S4x5000x1 ![0, 1] bcast_S4x5000_S4x5000x1_0_1 : (⟨S4x5000, .f32⟩ : BufTy).Contents (Elt F) → (⟨S4x5000x1, .f32⟩ : BufTy).Contents (Elt F)),
    StableHlo.nary ![main_v54, main_v55, main_v56, main_v57] main_v58 (fun u => (concatenate S4x5000x4 2 [⟨S4x5000x1, (u 0 : (⟨S4x5000x1, .f32⟩ : BufTy).Contents (Elt F))⟩, ⟨S4x5000x1, (u 1 : (⟨S4x5000x1, .f32⟩ : BufTy).Contents (Elt F))⟩, ⟨S4x5000x1, (u 2 : (⟨S4x5000x1, .f32⟩ : BufTy).Contents (Elt F))⟩, ⟨S4x5000x1, (u 3 : (⟨S4x5000x1, .f32⟩ : BufTy).Contents (Elt F))⟩] concatenates_S4x5000x1_S4x5000x1_S4x5000x1_S4x5000x1_S4x5000x4_d2 : (⟨S4x5000x4, .f32⟩ : BufTy).Contents (Elt F))),
    StableHlo.unary main_cst_0 main_v59 ((extractStridedSlice S1 ![0] · slices_S4_S1_0) : (⟨S4, .f32⟩ : BufTy).Contents (Elt F) → (⟨S1, .f32⟩ : BufTy).Contents (Elt F)),
    StableHlo.reshape main_v59 main_v60 (rfl : (.f32 : EltTy) = .f32) shapeCasts_S1_S_,
    StableHlo.unary main_cst_0 main_v61 ((extractStridedSlice S1 ![1] · slices_S4_S1_1) : (⟨S4, .f32⟩ : BufTy).Contents (Elt F) → (⟨S1, .f32⟩ : BufTy).Contents (Elt F)),
    StableHlo.reshape main_v61 main_v62 (rfl : (.f32 : EltTy) = .f32) shapeCasts_S1_S_,
    StableHlo.unary main_cst_0 main_v63 ((extractStridedSlice S1 ![2] · slices_S4_S1_2) : (⟨S4, .f32⟩ : BufTy).Contents (Elt F) → (⟨S1, .f32⟩ : BufTy).Contents (Elt F)),
    StableHlo.reshape main_v63 main_v64 (rfl : (.f32 : EltTy) = .f32) shapeCasts_S1_S_,
    StableHlo.unary main_cst_0 main_v65 ((extractStridedSlice S1 ![3] · slices_S4_S1_3) : (⟨S4, .f32⟩ : BufTy).Contents (Elt F) → (⟨S1, .f32⟩ : BufTy).Contents (Elt F)),
    StableHlo.reshape main_v65 main_v66 (rfl : (.f32 : EltTy) = .f32) shapeCasts_S1_S_,
    StableHlo.unary main_v58 main_v67 ((extractStridedSlice S4x5000x1 ![0, 0, 0] · slices_S4x5000x4_S4x5000x1_0_0_0) : (⟨S4x5000x4, .f32⟩ : BufTy).Contents (Elt F) → (⟨S4x5000x1, .f32⟩ : BufTy).Contents (Elt F)),
    StableHlo.reshape main_v67 main_v68 (rfl : (.f32 : EltTy) = .f32) shapeCasts_S4x5000x1_S4x5000 ]
/-- Stretch `pre1` touches TensorCore references only. -/
theorem pre1_sub : (pre1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩

/-- @main before the loop, stretch 2: 4 operations of a called function. -/
abbrev pre2 : List (HloOp τ sig (Elt F)) :=
  [ StableHlo.TRef.unary (.of main_v60 : StableHlo.TRef sig ⟨S_, .f32⟩) (.of main_call0_v0 : StableHlo.TRef sig ⟨S4x5000, .f32⟩) (broadcastInDim S4x5000 ![] bcast_S_S4x5000),
    StableHlo.TRef.binary (.of main_call0_v0 : StableHlo.TRef sig ⟨S4x5000, .f32⟩) (.of main_v68 : StableHlo.TRef sig ⟨S4x5000, .f32⟩) (.of main_call0_v1 : StableHlo.TRef sig ⟨S4x5000, .f32⟩) maximumf,
    StableHlo.TRef.unary (.of main_v64 : StableHlo.TRef sig ⟨S_, .f32⟩) (.of main_call0_v2 : StableHlo.TRef sig ⟨S4x5000, .f32⟩) (broadcastInDim S4x5000 ![] bcast_S_S4x5000),
    StableHlo.TRef.binary (.of main_call0_v2 : StableHlo.TRef sig ⟨S4x5000, .f32⟩) (.of main_call0_v1 : StableHlo.TRef sig ⟨S4x5000, .f32⟩) (.of main_v69 : StableHlo.TRef sig ⟨S4x5000, .f32⟩) minimumf ]
/-- Stretch `pre2` touches TensorCore references only. -/
theorem pre2_sub : (pre2 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub ..⟩

/-- @main before the loop, stretch 3: 2 operations. -/
abbrev pre3 : List (HloOp τ sig (Elt F)) :=
  [ StableHlo.unary main_v58 main_v70 ((extractStridedSlice S4x5000x1 ![0, 0, 1] · slices_S4x5000x4_S4x5000x1_0_0_1) : (⟨S4x5000x4, .f32⟩ : BufTy).Contents (Elt F) → (⟨S4x5000x1, .f32⟩ : BufTy).Contents (Elt F)),
    StableHlo.reshape main_v70 main_v71 (rfl : (.f32 : EltTy) = .f32) shapeCasts_S4x5000x1_S4x5000 ]
/-- Stretch `pre3` touches TensorCore references only. -/
theorem pre3_sub : (pre3 : List (HloOp τ sig (Elt F))).Forall fun op => op.bufs ⊆ StableHlo.tcRefs τ sig :=
  ⟨StableHlo.unary_bufs_sub .., StableHlo.reshape_bufs_sub ..⟩

/-- @main before the loop, stretch 4: 4 operations of a called function. -/
abbrev pre4 : List (HloOp τ sig (Elt F)) :=
  [ StableHlo.TRef.unary (.of main_v62 : StableHlo.TRef sig ⟨S_, .f32⟩) (.of main_call1_v0 : StableHlo.TRef sig ⟨S4x5000, .f32⟩) (broadcastInDim S4x5000 ![] bcast_S_S4x5000),
    StableHlo.TRef.binary (.of main_call1_v0 : StableHlo.TRef sig ⟨S4x5000, .f32⟩) (.of main_v71 : StableHlo.TRef sig ⟨S4x5000, .f32⟩) (.of main_call1_v1 : StableHlo.TRef sig ⟨S4x5000, .f32⟩) maximumf,
    StableHlo.TRef.unary (.of main_v66 : StableHlo.TRef sig ⟨S_, .f32⟩) (.of main_call1_v2 : StableHlo.TRef sig ⟨S4x5000, .f32⟩) (broadcastInDim S4x5000 ![] bcast_S_S4x5000),
    StableHlo.TRef.binary (.of main_call1_v2 : StableHlo.TRef sig ⟨S4x5000, .f32⟩) (.of main_call1_v1 : StableHlo.TRef sig ⟨S4x5000, .f32⟩) (.of main_v72 : StableHlo.TRef sig ⟨S4x5000, .f32⟩) minimumf ]
/-- Stretch `pre4` touches TensorCore references only. -/
theorem pre4_sub : (pre4 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub ..⟩

/-- @main before the loop, stretch 5: 2 operations. -/
abbrev pre5 : List (HloOp τ sig (Elt F)) :=
  [ StableHlo.unary main_v58 main_v73 ((extractStridedSlice S4x5000x1 ![0, 0, 2] · slices_S4x5000x4_S4x5000x1_0_0_2) : (⟨S4x5000x4, .f32⟩ : BufTy).Contents (Elt F) → (⟨S4x5000x1, .f32⟩ : BufTy).Contents (Elt F)),
    StableHlo.reshape main_v73 main_v74 (rfl : (.f32 : EltTy) = .f32) shapeCasts_S4x5000x1_S4x5000 ]
/-- Stretch `pre5` touches TensorCore references only. -/
theorem pre5_sub : (pre5 : List (HloOp τ sig (Elt F))).Forall fun op => op.bufs ⊆ StableHlo.tcRefs τ sig :=
  ⟨StableHlo.unary_bufs_sub .., StableHlo.reshape_bufs_sub ..⟩

/-- @main before the loop, stretch 6: 4 operations of a called function. -/
abbrev pre6 : List (HloOp τ sig (Elt F)) :=
  [ StableHlo.TRef.unary (.of main_v60 : StableHlo.TRef sig ⟨S_, .f32⟩) (.of main_call2_v0 : StableHlo.TRef sig ⟨S4x5000, .f32⟩) (broadcastInDim S4x5000 ![] bcast_S_S4x5000),
    StableHlo.TRef.binary (.of main_call2_v0 : StableHlo.TRef sig ⟨S4x5000, .f32⟩) (.of main_v74 : StableHlo.TRef sig ⟨S4x5000, .f32⟩) (.of main_call2_v1 : StableHlo.TRef sig ⟨S4x5000, .f32⟩) maximumf,
    StableHlo.TRef.unary (.of main_v64 : StableHlo.TRef sig ⟨S_, .f32⟩) (.of main_call2_v2 : StableHlo.TRef sig ⟨S4x5000, .f32⟩) (broadcastInDim S4x5000 ![] bcast_S_S4x5000),
    StableHlo.TRef.binary (.of main_call2_v2 : StableHlo.TRef sig ⟨S4x5000, .f32⟩) (.of main_call2_v1 : StableHlo.TRef sig ⟨S4x5000, .f32⟩) (.of main_v75 : StableHlo.TRef sig ⟨S4x5000, .f32⟩) minimumf ]
/-- Stretch `pre6` touches TensorCore references only. -/
theorem pre6_sub : (pre6 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub ..⟩

/-- @main before the loop, stretch 7: 2 operations. -/
abbrev pre7 : List (HloOp τ sig (Elt F)) :=
  [ StableHlo.unary main_v58 main_v76 ((extractStridedSlice S4x5000x1 ![0, 0, 3] · slices_S4x5000x4_S4x5000x1_0_0_3) : (⟨S4x5000x4, .f32⟩ : BufTy).Contents (Elt F) → (⟨S4x5000x1, .f32⟩ : BufTy).Contents (Elt F)),
    StableHlo.reshape main_v76 main_v77 (rfl : (.f32 : EltTy) = .f32) shapeCasts_S4x5000x1_S4x5000 ]
/-- Stretch `pre7` touches TensorCore references only. -/
theorem pre7_sub : (pre7 : List (HloOp τ sig (Elt F))).Forall fun op => op.bufs ⊆ StableHlo.tcRefs τ sig :=
  ⟨StableHlo.unary_bufs_sub .., StableHlo.reshape_bufs_sub ..⟩

/-- @main before the loop, stretch 8: 4 operations of a called function. -/
abbrev pre8 : List (HloOp τ sig (Elt F)) :=
  [ StableHlo.TRef.unary (.of main_v62 : StableHlo.TRef sig ⟨S_, .f32⟩) (.of main_call3_v0 : StableHlo.TRef sig ⟨S4x5000, .f32⟩) (broadcastInDim S4x5000 ![] bcast_S_S4x5000),
    StableHlo.TRef.binary (.of main_call3_v0 : StableHlo.TRef sig ⟨S4x5000, .f32⟩) (.of main_v77 : StableHlo.TRef sig ⟨S4x5000, .f32⟩) (.of main_call3_v1 : StableHlo.TRef sig ⟨S4x5000, .f32⟩) maximumf,
    StableHlo.TRef.unary (.of main_v66 : StableHlo.TRef sig ⟨S_, .f32⟩) (.of main_call3_v2 : StableHlo.TRef sig ⟨S4x5000, .f32⟩) (broadcastInDim S4x5000 ![] bcast_S_S4x5000),
    StableHlo.TRef.binary (.of main_call3_v2 : StableHlo.TRef sig ⟨S4x5000, .f32⟩) (.of main_call3_v1 : StableHlo.TRef sig ⟨S4x5000, .f32⟩) (.of main_v78 : StableHlo.TRef sig ⟨S4x5000, .f32⟩) minimumf ]
/-- Stretch `pre8` touches TensorCore references only. -/
theorem pre8_sub : (pre8 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub ..⟩

/-- @main before the loop, stretch 9: 13 operations. -/
abbrev pre9 : List (HloOp τ sig (Elt F)) :=
  [ StableHlo.unary main_v69 main_v79 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v72 main_v80 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v75 main_v81 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v78 main_v82 (broadcastInDim S4x5000x1 ![0, 1] bcast_S4x5000_S4x5000x1_0_1 : (⟨S4x5000, .f32⟩ : BufTy).Contents (Elt F) → (⟨S4x5000x1, .f32⟩ : BufTy).Contents (Elt F)),
    StableHlo.nary ![main_v79, main_v80, main_v81, main_v82] main_v83 (fun u => (concatenate S4x5000x4 2 [⟨S4x5000x1, (u 0 : (⟨S4x5000x1, .f32⟩ : BufTy).Contents (Elt F))⟩, ⟨S4x5000x1, (u 1 : (⟨S4x5000x1, .f32⟩ : BufTy).Contents (Elt F))⟩, ⟨S4x5000x1, (u 2 : (⟨S4x5000x1, .f32⟩ : BufTy).Contents (Elt F))⟩, ⟨S4x5000x1, (u 3 : (⟨S4x5000x1, .f32⟩ : BufTy).Contents (Elt F))⟩] concatenates_S4x5000x1_S4x5000x1_S4x5000x1_S4x5000x1_S4x5000x4_d2 : (⟨S4x5000x4, .f32⟩ : BufTy).Contents (Elt F))),
    StableHlo.nullary main_c (constantI S_ 32 0#32),
    StableHlo.unary main_c main_v84 (broadcastInDim S4x5000 ![] bcast_S_S4x5000 : (⟨S_, .i32⟩ : BufTy).Contents (Elt F) → (⟨S4x5000, .i32⟩ : BufTy).Contents (Elt F)),
    StableHlo.binary main_v2 main_v84 main_v85 (cmpi .sgt : (⟨S4x5000, .i32⟩ : BufTy).Contents (Elt F) → (⟨S4x5000, .i32⟩ : BufTy).Contents (Elt F) → (⟨S4x5000, .i1⟩ : BufTy).Contents (Elt F)),
    StableHlo.nullary main_cst_5 (constant S_ .f32 0x3F333333#32),
    StableHlo.unary main_cst_5 main_v86 (broadcastInDim S4x5000 ![] bcast_S_S4x5000 : (⟨S_, .f32⟩ : BufTy).Contents (Elt F) → (⟨S4x5000, .f32⟩ : BufTy).Contents (Elt F)),
    StableHlo.binary main_v5 main_v86 main_v87 (cmpf .oge : (⟨S4x5000, .f32⟩ : BufTy).Contents (Elt F) → (⟨S4x5000, .f32⟩ : BufTy).Contents (Elt F) → (⟨S4x5000, .i1⟩ : BufTy).Contents (Elt F)),
    StableHlo.binary main_v85 main_v87 main_v88 (andi : (⟨S4x5000, .i1⟩ : BufTy).Contents (Elt F) → (⟨S4x5000, .i1⟩ : BufTy).Contents (Elt F) → (⟨S4x5000, .i1⟩ : BufTy).Contents (Elt F)),
    StableHlo.nullary main_cst_6 (constant S_ .f32 0xBF800000#32) ]
/-- Stretch `pre9` touches TensorCore references only. -/
theorem pre9_sub : (pre9 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub ..⟩

/-- @main before the loop, stretch 10: 4 operations of a called function. -/
abbrev pre10 : List (HloOp τ sig (Elt F)) :=
  [ StableHlo.TRef.unary (.of main_cst_6 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S5000, .f32⟩) (broadcastInDim S5000 ![] bcast_S_S5000),
    StableHlo.TRef.unary (.of main_call4_v1 : StableHlo.TRef sig ⟨S5000, .f32⟩) (.of main_call4_v2 : StableHlo.TRef sig ⟨S4x5000, .f32⟩) (broadcastInDim S4x5000 ![1] bcast_S5000_S4x5000_1),
    StableHlo.TRef.ternary (.of main_v88 : StableHlo.TRef sig ⟨S4x5000, .i1⟩) (.of main_v5 : StableHlo.TRef sig ⟨S4x5000, .f32⟩) (.of main_call4_v2 : StableHlo.TRef sig ⟨S4x5000, .f32⟩) (.of main_v89 : StableHlo.TRef sig ⟨S4x5000, .f32⟩) select ]
/-- Stretch `pre10` touches TensorCore references only. -/
theorem pre10_sub : (pre10 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩

/-- @main before the loop, stretch 11: 21 operations. -/
abbrev pre11 : List (HloOp τ sig (Elt F)) :=
  [ StableHlo.unary main_v2 main_v90 (sitofp .f32 : (⟨S4x5000, .i32⟩ : BufTy).Contents (Elt F) → (⟨S4x5000, .f32⟩ : BufTy).Contents (Elt F)),
    StableHlo.unary main_v90 main_v91 (broadcastInDim S4x5000x1 ![0, 1] bcast_S4x5000_S4x5000x1_0_1 : (⟨S4x5000, .f32⟩ : BufTy).Contents (Elt F) → (⟨S4x5000x1, .f32⟩ : BufTy).Contents (Elt F)),
    StableHlo.nullary main_cst_7 (constant S_ .f32 0x40800000#32),
    StableHlo.unary main_cst_7 main_v92 (broadcastInDim S4x5000x1 ![] bcast_S_S4x5000x1 : (⟨S_, .f32⟩ : BufTy).Contents (Elt F) → (⟨S4x5000x1, .f32⟩ : BufTy).Contents (Elt F)),
    StableHlo.binary main_v91 main_v92 main_v93 (mulf : (⟨S4x5000x1, .f32⟩ : BufTy).Contents (Elt F) → (⟨S4x5000x1, .f32⟩ : BufTy).Contents (Elt F) → (⟨S4x5000x1, .f32⟩ : BufTy).Contents (Elt F)),
    StableHlo.unary main_v93 main_v94 (broadcastInDim S4x5000x4 ![0, 1, 2] bcast_S4x5000x1_S4x5000x4_0_1_2 : (⟨S4x5000x1, .f32⟩ : BufTy).Contents (Elt F) → (⟨S4x5000x4, .f32⟩ : BufTy).Contents (Elt F)),
    StableHlo.binary main_v83 main_v94 main_v95 (addf : (⟨S4x5000x4, .f32⟩ : BufTy).Contents (Elt F) → (⟨S4x5000x4, .f32⟩ : BufTy).Contents (Elt F) → (⟨S4x5000x4, .f32⟩ : BufTy).Contents (Elt F)),
    StableHlo.unary main_v95 main_v96 ((extractStridedSlice S4x5000x1 ![0, 0, 2] · slices_S4x5000x4_S4x5000x1_0_0_2) : (⟨S4x5000x4, .f32⟩ : BufTy).Contents (Elt F) → (⟨S4x5000x1, .f32⟩ : BufTy).Contents (Elt F)),
    StableHlo.reshape main_v96 main_v97 (rfl : (.f32 : EltTy) = .f32) shapeCasts_S4x5000x1_S4x5000,
    StableHlo.unary main_v95 main_v98 ((extractStridedSlice S4x5000x1 ![0, 0, 0] · slices_S4x5000x4_S4x5000x1_0_0_0) : (⟨S4x5000x4, .f32⟩ : BufTy).Contents (Elt F) → (⟨S4x5000x1, .f32⟩ : BufTy).Contents (Elt F)),
    StableHlo.reshape main_v98 main_v99 (rfl : (.f32 : EltTy) = .f32) shapeCasts_S4x5000x1_S4x5000,
    StableHlo.binary main_v97 main_v99 main_v100 (subf : (⟨S4x5000, .f32⟩ : BufTy).Contents (Elt F) → (⟨S4x5000, .f32⟩ : BufTy).Contents (Elt F) → (⟨S4x5000, .f32⟩ : BufTy).Contents (Elt F)),
    StableHlo.unary main_v95 main_v101 ((extractStridedSlice S4x5000x1 ![0, 0, 3] · slices_S4x5000x4_S4x5000x1_0_0_3) : (⟨S4x5000x4, .f32⟩ : BufTy).Contents (Elt F) → (⟨S4x5000x1, .f32⟩ : BufTy).Contents (Elt F)),
    StableHlo.reshape main_v101 main_v102 (rfl : (.f32 : EltTy) = .f32) shapeCasts_S4x5000x1_S4x5000,
    StableHlo.unary main_v95 main_v103 ((extractStridedSlice S4x5000x1 ![0, 0, 1] · slices_S4x5000x4_S4x5000x1_0_0_1) : (⟨S4x5000x4, .f32⟩ : BufTy).Contents (Elt F) → (⟨S4x5000x1, .f32⟩ : BufTy).Contents (Elt F)),
    StableHlo.reshape main_v103 main_v104 (rfl : (.f32 : EltTy) = .f32) shapeCasts_S4x5000x1_S4x5000,
    StableHlo.binary main_v102 main_v104 main_v105 (subf : (⟨S4x5000, .f32⟩ : BufTy).Contents (Elt F) → (⟨S4x5000, .f32⟩ : BufTy).Contents (Elt F) → (⟨S4x5000, .f32⟩ : BufTy).Contents (Elt F)),
    StableHlo.binary main_v100 main_v105 main_v106 (mulf : (⟨S4x5000, .f32⟩ : BufTy).Contents (Elt F) → (⟨S4x5000, .f32⟩ : BufTy).Contents (Elt F) → (⟨S4x5000, .f32⟩ : BufTy).Contents (Elt F)),
    StableHlo.nullary main_c_8 (constantI S_ 32 0#32),
    StableHlo.unary main_c_8 main_v107 (broadcastInDim S100x4 ![] bcast_S_S100x4 : (⟨S_, .i32⟩ : BufTy).Contents (Elt F) → (⟨S100x4, .i32⟩ : BufTy).Contents (Elt F)),
    StableHlo.nullary main_c_9 (constantI S_ 1 0#1) ]
/-- Stretch `pre11` touches TensorCore references only. -/
theorem pre11_sub : (pre11 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.nullary_bufs_sub .., StableHlo.unary_bufs_sub .., StableHlo.nullary_bufs_sub ..⟩

/-- @main before the loop, stretch 12: 8 operations. -/
abbrev pre12 : List (HloOp τ sig (Elt F)) :=
  [ StableHlo.unary main_c_9 main_v108 (broadcastInDim S100x4 ![] bcast_S_S100x4 : (⟨S_, .i1⟩ : BufTy).Contents (Elt F) → (⟨S100x4, .i1⟩ : BufTy).Contents (Elt F)),
    StableHlo.nullary main_c_10 (constantI S_ 32 0#32),
    StableHlo.unary main_v95 main_v109_0 id,
    StableHlo.unary main_v106 main_v109_1 id,
    StableHlo.unary main_c_10 main_v109_2 id,
    StableHlo.unary main_v89 main_v109_3 id,
    StableHlo.unary main_v107 main_v109_4 id,
    StableHlo.unary main_v108 main_v109_5 id ]
/-- Stretch `pre12` touches TensorCore references only. -/
theorem pre12_sub : (pre12 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

/-- @main before the loop: its stretches in order. -/
abbrev preI : List (List (HloOp τ sig (Elt F))) :=
  [pre0, pre1, pre2, pre3, pre4, pre5, pre6, pre7, pre8, pre9, pre10, pre11, pre12]
/-- @main before the loop: nothing but TensorCore references is touched and nothing is allocated. -/
theorem preI_plain : StableHlo.Plain (preI (F := F)) :=
  .cons pre0_sub <| .cons pre1_sub <| .cons pre2_sub <| .cons pre3_sub <| .cons pre4_sub <| .cons pre5_sub <| .cons pre6_sub <| .cons pre7_sub <| .cons pre8_sub <| .cons pre9_sub <| .cons pre10_sub <| .cons pre11_sub <| .cons pre12_sub <| .nil

/-- The loop's body, stretch 0: 5 operations of a called function. -/
abbrev body0 : List (HloOp τ sig (Elt F)) :=
  [ StableHlo.TRef.nullary (.of main_while0b_call5_v0 : StableHlo.TRef sig ⟨S4x5000, .i32⟩) (iotaInDim S4x5000 32 1),
    StableHlo.TRef.nullary (.of main_while0b_call5_cst : StableHlo.TRef sig ⟨S_, .f32⟩) (constant S_ .f32 0xFF800000#32),
    StableHlo.TRef.nullary (.of main_while0b_call5_c : StableHlo.TRef sig ⟨S_, .i32⟩) (constantI S_ 32 0#32),
    StableHlo.TRef.quaternary (.of main_v109_3 : StableHlo.TRef sig ⟨S4x5000, .f32⟩) (.of main_while0b_call5_v0 : StableHlo.TRef sig ⟨S4x5000, .i32⟩) (.of main_while0b_call5_cst : StableHlo.TRef sig ⟨S_, .f32⟩) (.of main_while0b_call5_c : StableHlo.TRef sig ⟨S_, .i32⟩) (.of main_while0b_call5_v1_0 : StableHlo.TRef sig ⟨S4, .f32⟩) (fun x y u v j => (Host.argReduce reducer_argmax_f32_i32 x y u v reducesTo_S4x5000_S4_d1 h_S_ j).1),
    StableHlo.TRef.quaternary (.of main_v109_3 : StableHlo.TRef sig ⟨S4x5000, .f32⟩) (.of main_while0b_call5_v0 : StableHlo.TRef sig ⟨S4x5000, .i32⟩) (.of main_while0b_call5_cst : StableHlo.TRef sig ⟨S_, .f32⟩) (.of main_while0b_call5_c : StableHlo.TRef sig ⟨S_, .i32⟩) (.of main_while0b_v141 : StableHlo.TRef sig ⟨S4, .i32⟩) (fun x y u v j => (Host.argReduce reducer_argmax_f32_i32 x y u v reducesTo_S4x5000_S4_d1 h_S_ j).2) ]
/-- Stretch `body0` touches TensorCore references only. -/
theorem body0_sub : (body0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- The loop's body, stretch 1: 2 operations of a called function. -/
abbrev body1 : List (HloOp τ sig (Elt F)) :=
  [ StableHlo.TRef.unary (.of main_while0b_v141 : StableHlo.TRef sig ⟨S4, .i32⟩) (.of main_while0b_call6_v0 : StableHlo.TRef sig ⟨S4x1, .i32⟩) (broadcastInDim S4x1 ![0] bcast_S4_S4x1_0),
    StableHlo.TRef.binary (.of main_v109_3 : StableHlo.TRef sig ⟨S4x5000, .f32⟩) (.of main_while0b_call6_v0 : StableHlo.TRef sig ⟨S4x1, .i32⟩) (.of main_while0b_v142 : StableHlo.TRef sig ⟨S4, .f32⟩) (fun x i => Host.gather gather_S4x5000_S4x1_S4_n_1_0_0_1_1_11 x i) ]
/-- Stretch `body1` touches TensorCore references only. -/
theorem body1_sub : (body1 : List (HloOp τ sig (Elt F))).Forall fun op => op.bufs ⊆ StableHlo.tcRefs τ sig :=
  ⟨StableHlo.unary_bufs_sub .., StableHlo.binary_bufs_sub ..⟩

/-- The loop's body, stretch 2: 3 operations. -/
abbrev body2 : List (HloOp τ sig (Elt F)) :=
  [ StableHlo.nullary main_while0b_cst_23 (constant S_ .f32 0x00000000#32),
    StableHlo.unary main_while0b_cst_23 main_while0b_v143 (broadcastInDim S4 ![] bcast_S_S4 : (⟨S_, .f32⟩ : BufTy).Contents (Elt F) → (⟨S4, .f32⟩ : BufTy).Contents (Elt F)),
    StableHlo.binary main_while0b_v142 main_while0b_v143 main_while0b_v144 (cmpf .ogt : (⟨S4, .f32⟩ : BufTy).Contents (Elt F) → (⟨S4, .f32⟩ : BufTy).Contents (Elt F) → (⟨S4, .i1⟩ : BufTy).Contents (Elt F)) ]
/-- Stretch `body2` touches TensorCore references only. -/
theorem body2_sub : (body2 : List (HloOp τ sig (Elt F))).Forall fun op => op.bufs ⊆ StableHlo.tcRefs τ sig :=
  ⟨StableHlo.nullary_bufs_sub .., StableHlo.unary_bufs_sub .., StableHlo.binary_bufs_sub ..⟩

/-- The loop's body, stretch 3: 2 operations of a called function. -/
abbrev body3 : List (HloOp τ sig (Elt F)) :=
  [ StableHlo.TRef.unary (.of main_while0b_v141 : StableHlo.TRef sig ⟨S4, .i32⟩) (.of main_while0b_call7_v0 : StableHlo.TRef sig ⟨S4x1, .i32⟩) (broadcastInDim S4x1 ![0] bcast_S4_S4x1_0),
    StableHlo.TRef.binary (.of main_v109_0 : StableHlo.TRef sig ⟨S4x5000x4, .f32⟩) (.of main_while0b_call7_v0 : StableHlo.TRef sig ⟨S4x1, .i32⟩) (.of main_while0b_v145 : StableHlo.TRef sig ⟨S4x4, .f32⟩) (fun x i => Host.gather gather_S4x5000x4_S4x1_S4x4_1_1_0_0_1_1_114 x i) ]
/-- Stretch `body3` touches TensorCore references only. -/
theorem body3_sub : (body3 : List (HloOp τ sig (Elt F))).Forall fun op => op.bufs ⊆ StableHlo.tcRefs τ sig :=
  ⟨StableHlo.unary_bufs_sub .., StableHlo.binary_bufs_sub ..⟩

/-- The loop's body, stretch 4: 37 operations. -/
abbrev body4 : List (HloOp τ sig (Elt F)) :=
  [ StableHlo.unary main_while0b_v145 main_while0b_v146 ((extractStridedSlice S4x1 ![0, 0] · slices_S4x4_S4x1_0_0) : (⟨S4x4, .f32⟩ : BufTy).Contents (Elt F) → (⟨S4x1, .f32⟩ : BufTy).Contents (Elt F)),
    StableHlo.reshape main_while0b_v146 main_while0b_v147 (rfl : (.f32 : EltTy) = .f32) shapeCasts_S4x1_S4,
    StableHlo.unary main_v109_0 main_while0b_v148 ((extractStridedSlice S4x5000x1 ![0, 0, 0] · slices_S4x5000x4_S4x5000x1_0_0_0) : (⟨S4x5000x4, .f32⟩ : BufTy).Contents (Elt F) → (⟨S4x5000x1, .f32⟩ : BufTy).Contents (Elt F)),
    StableHlo.reshape main_while0b_v148 main_while0b_v149 (rfl : (.f32 : EltTy) = .f32) shapeCasts_S4x5000x1_S4x5000,
    StableHlo.unary main_while0b_v147 main_while0b_v150 (broadcastInDim S4x1 ![0] bcast_S4_S4x1_0 : (⟨S4, .f32⟩ : BufTy).Contents (Elt F) → (⟨S4x1, .f32⟩ : BufTy).Contents (Elt F)),
    StableHlo.unary main_while0b_v150 main_while0b_v151 (broadcastInDim S4x5000 ![0, 1] bcast_S4x1_S4x5000_0_1 : (⟨S4x1, .f32⟩ : BufTy).Contents (Elt F) → (⟨S4x5000, .f32⟩ : BufTy).Contents (Elt F)),
    StableHlo.binary main_while0b_v151 main_while0b_v149 main_while0b_v152 (maximumf : (⟨S4x5000, .f32⟩ : BufTy).Contents (Elt F) → (⟨S4x5000, .f32⟩ : BufTy).Contents (Elt F) → (⟨S4x5000, .f32⟩ : BufTy).Contents (Elt F)),
    StableHlo.unary main_while0b_v145 main_while0b_v153 ((extractStridedSlice S4x1 ![0, 1] · slices_S4x4_S4x1_0_1) : (⟨S4x4, .f32⟩ : BufTy).Contents (Elt F) → (⟨S4x1, .f32⟩ : BufTy).Contents (Elt F)),
    StableHlo.reshape main_while0b_v153 main_while0b_v154 (rfl : (.f32 : EltTy) = .f32) shapeCasts_S4x1_S4,
    StableHlo.unary main_v109_0 main_while0b_v155 ((extractStridedSlice S4x5000x1 ![0, 0, 1] · slices_S4x5000x4_S4x5000x1_0_0_1) : (⟨S4x5000x4, .f32⟩ : BufTy).Contents (Elt F) → (⟨S4x5000x1, .f32⟩ : BufTy).Contents (Elt F)),
    StableHlo.reshape main_while0b_v155 main_while0b_v156 (rfl : (.f32 : EltTy) = .f32) shapeCasts_S4x5000x1_S4x5000,
    StableHlo.unary main_while0b_v154 main_while0b_v157 (broadcastInDim S4x1 ![0] bcast_S4_S4x1_0 : (⟨S4, .f32⟩ : BufTy).Contents (Elt F) → (⟨S4x1, .f32⟩ : BufTy).Contents (Elt F)),
    StableHlo.unary main_while0b_v157 main_while0b_v158 (broadcastInDim S4x5000 ![0, 1] bcast_S4x1_S4x5000_0_1 : (⟨S4x1, .f32⟩ : BufTy).Contents (Elt F) → (⟨S4x5000, .f32⟩ : BufTy).Contents (Elt F)),
    StableHlo.binary main_while0b_v158 main_while0b_v156 main_while0b_v159 (maximumf : (⟨S4x5000, .f32⟩ : BufTy).Contents (Elt F) → (⟨S4x5000, .f32⟩ : BufTy).Contents (Elt F) → (⟨S4x5000, .f32⟩ : BufTy).Contents (Elt F)),
    StableHlo.unary main_while0b_v145 main_while0b_v160 ((extractStridedSlice S4x1 ![0, 2] · slices_S4x4_S4x1_0_2) : (⟨S4x4, .f32⟩ : BufTy).Contents (Elt F) → (⟨S4x1, .f32⟩ : BufTy).Contents (Elt F)),
    StableHlo.reshape main_while0b_v160 main_while0b_v161 (rfl : (.f32 : EltTy) = .f32) shapeCasts_S4x1_S4,
    StableHlo.unary main_v109_0 main_while0b_v162 ((extractStridedSlice S4x5000x1 ![0, 0, 2] · slices_S4x5000x4_S4x5000x1_0_0_2) : (⟨S4x5000x4, .f32⟩ : BufTy).Contents (Elt F) → (⟨S4x5000x1, .f32⟩ : BufTy).Contents (Elt F)),
    StableHlo.reshape main_while0b_v162 main_while0b_v163 (rfl : (.f32 : EltTy) = .f32) shapeCasts_S4x5000x1_S4x5000,
    StableHlo.unary main_while0b_v161 main_while0b_v164 (broadcastInDim S4x1 ![0] bcast_S4_S4x1_0 : (⟨S4, .f32⟩ : BufTy).Contents (Elt F) → (⟨S4x1, .f32⟩ : BufTy).Contents (Elt F)),
    StableHlo.unary main_while0b_v164 main_while0b_v165 (broadcastInDim S4x5000 ![0, 1] bcast_S4x1_S4x5000_0_1 : (⟨S4x1, .f32⟩ : BufTy).Contents (Elt F) → (⟨S4x5000, .f32⟩ : BufTy).Contents (Elt F)),
    StableHlo.binary main_while0b_v165 main_while0b_v163 main_while0b_v166 (minimumf : (⟨S4x5000, .f32⟩ : BufTy).Contents (Elt F) → (⟨S4x5000, .f32⟩ : BufTy).Contents (Elt F) → (⟨S4x5000, .f32⟩ : BufTy).Contents (Elt F)),
    StableHlo.unary main_while0b_v145 main_while0b_v167 ((extractStridedSlice S4x1 ![0, 3] · slices_S4x4_S4x1_0_3) : (⟨S4x4, .f32⟩ : BufTy).Contents (Elt F) → (⟨S4x1, .f32⟩ : BufTy).Contents (Elt F)),
    StableHlo.reshape main_while0b_v167 main_while0b_v168 (rfl : (.f32 : EltTy) = .f32) shapeCasts_S4x1_S4,
    StableHlo.unary main_v109_0 main_while0b_v169 ((extractStridedSlice S4x5000x1 ![0, 0, 3] · slices_S4x5000x4_S4x5000x1_0_0_3) : (⟨S4x5000x4, .f32⟩ : BufTy).Contents (Elt F) → (⟨S4x5000x1, .f32⟩ : BufTy).Contents (Elt F)),
    StableHlo.reshape main_while0b_v169 main_while0b_v170 (rfl : (.f32 : EltTy) = .f32) shapeCasts_S4x5000x1_S4x5000,
    StableHlo.unary main_while0b_v168 main_while0b_v171 (broadcastInDim S4x1 ![0] bcast_S4_S4x1_0 : (⟨S4, .f32⟩ : BufTy).Contents (Elt F) → (⟨S4x1, .f32⟩ : BufTy).Contents (Elt F)),
    StableHlo.unary main_while0b_v171 main_while0b_v172 (broadcastInDim S4x5000 ![0, 1] bcast_S4x1_S4x5000_0_1 : (⟨S4x1, .f32⟩ : BufTy).Contents (Elt F) → (⟨S4x5000, .f32⟩ : BufTy).Contents (Elt F)),
    StableHlo.binary main_while0b_v172 main_while0b_v170 main_while0b_v173 (minimumf : (⟨S4x5000, .f32⟩ : BufTy).Contents (Elt F) → (⟨S4x5000, .f32⟩ : BufTy).Contents (Elt F) → (⟨S4x5000, .f32⟩ : BufTy).Contents (Elt F)),
    StableHlo.binary main_while0b_v166 main_while0b_v152 main_while0b_v174 (subf : (⟨S4x5000, .f32⟩ : BufTy).Contents (Elt F) → (⟨S4x5000, .f32⟩ : BufTy).Contents (Elt F) → (⟨S4x5000, .f32⟩ : BufTy).Contents (Elt F)),
    StableHlo.nullary main_while0b_cst_24 (constant S_ .f32 0x00000000#32),
    StableHlo.unary main_while0b_cst_24 main_while0b_v175 (broadcastInDim S4x5000 ![] bcast_S_S4x5000 : (⟨S_, .f32⟩ : BufTy).Contents (Elt F) → (⟨S4x5000, .f32⟩ : BufTy).Contents (Elt F)),
    StableHlo.binary main_while0b_v174 main_while0b_v175 main_while0b_v176 (maximumf : (⟨S4x5000, .f32⟩ : BufTy).Contents (Elt F) → (⟨S4x5000, .f32⟩ : BufTy).Contents (Elt F) → (⟨S4x5000, .f32⟩ : BufTy).Contents (Elt F)),
    StableHlo.binary main_while0b_v173 main_while0b_v159 main_while0b_v177 (subf : (⟨S4x5000, .f32⟩ : BufTy).Contents (Elt F) → (⟨S4x5000, .f32⟩ : BufTy).Contents (Elt F) → (⟨S4x5000, .f32⟩ : BufTy).Contents (Elt F)),
    StableHlo.nullary main_while0b_cst_25 (constant S_ .f32 0x00000000#32),
    StableHlo.unary main_while0b_cst_25 main_while0b_v178 (broadcastInDim S4x5000 ![] bcast_S_S4x5000 : (⟨S_, .f32⟩ : BufTy).Contents (Elt F) → (⟨S4x5000, .f32⟩ : BufTy).Contents (Elt F)),
    StableHlo.binary main_while0b_v177 main_while0b_v178 main_while0b_v179 (maximumf : (⟨S4x5000, .f32⟩ : BufTy).Contents (Elt F) → (⟨S4x5000, .f32⟩ : BufTy).Contents (Elt F) → (⟨S4x5000, .f32⟩ : BufTy).Contents (Elt F)),
    StableHlo.binary main_while0b_v176 main_while0b_v179 main_while0b_v180 (mulf : (⟨S4x5000, .f32⟩ : BufTy).Contents (Elt F) → (⟨S4x5000, .f32⟩ : BufTy).Contents (Elt F) → (⟨S4x5000, .f32⟩ : BufTy).Contents (Elt F)) ]
/-- Stretch `body4` touches TensorCore references only. -/
theorem body4_sub : (body4 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩

/-- The loop's body, stretch 5: 2 operations of a called function. -/
abbrev body5 : List (HloOp τ sig (Elt F)) :=
  [ StableHlo.TRef.unary (.of main_while0b_v141 : StableHlo.TRef sig ⟨S4, .i32⟩) (.of main_while0b_call8_v0 : StableHlo.TRef sig ⟨S4x1, .i32⟩) (broadcastInDim S4x1 ![0] bcast_S4_S4x1_0),
    StableHlo.TRef.binary (.of main_v109_1 : StableHlo.TRef sig ⟨S4x5000, .f32⟩) (.of main_while0b_call8_v0 : StableHlo.TRef sig ⟨S4x1, .i32⟩) (.of main_while0b_v181 : StableHlo.TRef sig ⟨S4, .f32⟩) (fun x i => Host.gather gather_S4x5000_S4x1_S4_n_1_0_0_1_1_11 x i) ]
/-- Stretch `body5` touches TensorCore references only. -/
theorem body5_sub : (body5 : List (HloOp τ sig (Elt F))).Forall fun op => op.bufs ⊆ StableHlo.tcRefs τ sig :=
  ⟨StableHlo.unary_bufs_sub .., StableHlo.binary_bufs_sub ..⟩

/-- The loop's body, stretch 6: 16 operations. -/
abbrev body6 : List (HloOp τ sig (Elt F)) :=
  [ StableHlo.unary main_while0b_v181 main_while0b_v182 (broadcastInDim S4x1 ![0] bcast_S4_S4x1_0 : (⟨S4, .f32⟩ : BufTy).Contents (Elt F) → (⟨S4x1, .f32⟩ : BufTy).Contents (Elt F)),
    StableHlo.unary main_while0b_v182 main_while0b_v183 (broadcastInDim S4x5000 ![0, 1] bcast_S4x1_S4x5000_0_1 : (⟨S4x1, .f32⟩ : BufTy).Contents (Elt F) → (⟨S4x5000, .f32⟩ : BufTy).Contents (Elt F)),
    StableHlo.binary main_while0b_v183 main_v109_1 main_while0b_v184 (addf : (⟨S4x5000, .f32⟩ : BufTy).Contents (Elt F) → (⟨S4x5000, .f32⟩ : BufTy).Contents (Elt F) → (⟨S4x5000, .f32⟩ : BufTy).Contents (Elt F)),
    StableHlo.binary main_while0b_v184 main_while0b_v180 main_while0b_v185 (subf : (⟨S4x5000, .f32⟩ : BufTy).Contents (Elt F) → (⟨S4x5000, .f32⟩ : BufTy).Contents (Elt F) → (⟨S4x5000, .f32⟩ : BufTy).Contents (Elt F)),
    StableHlo.nullary main_while0b_cst_26 (constant S_ .f32 0x322BCC77#32),
    StableHlo.unary main_while0b_cst_26 main_while0b_v186 (broadcastInDim S4x5000 ![] bcast_S_S4x5000 : (⟨S_, .f32⟩ : BufTy).Contents (Elt F) → (⟨S4x5000, .f32⟩ : BufTy).Contents (Elt F)),
    StableHlo.binary main_while0b_v185 main_while0b_v186 main_while0b_v187 (addf : (⟨S4x5000, .f32⟩ : BufTy).Contents (Elt F) → (⟨S4x5000, .f32⟩ : BufTy).Contents (Elt F) → (⟨S4x5000, .f32⟩ : BufTy).Contents (Elt F)),
    StableHlo.binary main_while0b_v180 main_while0b_v187 main_while0b_v188 (Host.divf : (⟨S4x5000, .f32⟩ : BufTy).Contents (Elt F) → (⟨S4x5000, .f32⟩ : BufTy).Contents (Elt F) → (⟨S4x5000, .f32⟩ : BufTy).Contents (Elt F)),
    StableHlo.nullary main_while0b_cst_27 (constant S_ .f32 0x3E99999A#32),
    StableHlo.unary main_while0b_cst_27 main_while0b_v189 (broadcastInDim S4x5000 ![] bcast_S_S4x5000 : (⟨S_, .f32⟩ : BufTy).Contents (Elt F) → (⟨S4x5000, .f32⟩ : BufTy).Contents (Elt F)),
    StableHlo.binary main_while0b_v188 main_while0b_v189 main_while0b_v190 (cmpf .ogt : (⟨S4x5000, .f32⟩ : BufTy).Contents (Elt F) → (⟨S4x5000, .f32⟩ : BufTy).Contents (Elt F) → (⟨S4x5000, .i1⟩ : BufTy).Contents (Elt F)),
    StableHlo.nullary main_while0b_v191 (iotaInDim S5000 32 0),
    StableHlo.unary main_while0b_v191 main_while0b_v192 (broadcastInDim S1x5000 ![1] bcast_S5000_S1x5000_1 : (⟨S5000, .i32⟩ : BufTy).Contents (Elt F) → (⟨S1x5000, .i32⟩ : BufTy).Contents (Elt F)),
    StableHlo.unary main_while0b_v141 main_while0b_v193 (broadcastInDim S4x1 ![0] bcast_S4_S4x1_0 : (⟨S4, .i32⟩ : BufTy).Contents (Elt F) → (⟨S4x1, .i32⟩ : BufTy).Contents (Elt F)),
    StableHlo.unary main_while0b_v192 main_while0b_v194 (broadcastInDim S4x5000 ![0, 1] bcast_S1x5000_S4x5000_0_1 : (⟨S1x5000, .i32⟩ : BufTy).Contents (Elt F) → (⟨S4x5000, .i32⟩ : BufTy).Contents (Elt F)),
    StableHlo.unary main_while0b_v193 main_while0b_v195 (broadcastInDim S4x5000 ![0, 1] bcast_S4x1_S4x5000_0_1 : (⟨S4x1, .i32⟩ : BufTy).Contents (Elt F) → (⟨S4x5000, .i32⟩ : BufTy).Contents (Elt F)) ]
/-- Stretch `body6` touches TensorCore references only. -/
theorem body6_sub : (body6 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub ..⟩

/-- The loop's body, stretch 7: 6 operations. -/
abbrev body7 : List (HloOp τ sig (Elt F)) :=
  [ StableHlo.binary main_while0b_v194 main_while0b_v195 main_while0b_v196 (cmpi .eq : (⟨S4x5000, .i32⟩ : BufTy).Contents (Elt F) → (⟨S4x5000, .i32⟩ : BufTy).Contents (Elt F) → (⟨S4x5000, .i1⟩ : BufTy).Contents (Elt F)),
    StableHlo.binary main_while0b_v190 main_while0b_v196 main_while0b_v197 (ori : (⟨S4x5000, .i1⟩ : BufTy).Contents (Elt F) → (⟨S4x5000, .i1⟩ : BufTy).Contents (Elt F) → (⟨S4x5000, .i1⟩ : BufTy).Contents (Elt F)),
    StableHlo.unary main_while0b_v144 main_while0b_v198 (broadcastInDim S4x1 ![0] bcast_S4_S4x1_0 : (⟨S4, .i1⟩ : BufTy).Contents (Elt F) → (⟨S4x1, .i1⟩ : BufTy).Contents (Elt F)),
    StableHlo.unary main_while0b_v198 main_while0b_v199 (broadcastInDim S4x5000 ![0, 1] bcast_S4x1_S4x5000_0_1 : (⟨S4x1, .i1⟩ : BufTy).Contents (Elt F) → (⟨S4x5000, .i1⟩ : BufTy).Contents (Elt F)),
    StableHlo.binary main_while0b_v199 main_while0b_v197 main_while0b_v200 (andi : (⟨S4x5000, .i1⟩ : BufTy).Contents (Elt F) → (⟨S4x5000, .i1⟩ : BufTy).Contents (Elt F) → (⟨S4x5000, .i1⟩ : BufTy).Contents (Elt F)),
    StableHlo.nullary main_while0b_cst_28 (constant S_ .f32 0xBF800000#32) ]
/-- Stretch `body7` touches TensorCore references only. -/
theorem body7_sub : (body7 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.binary_bufs_sub .., StableHlo.nullary_bufs_sub ..⟩

/-- The loop's body, stretch 8: 4 operations of a called function. -/
abbrev body8 : List (HloOp τ sig (Elt F)) :=
  [ StableHlo.TRef.unary (.of main_while0b_cst_28 : StableHlo.TRef sig ⟨S_, .f32⟩) (.of main_while0b_call9_v0 : StableHlo.TRef sig ⟨S_, .f32⟩) id,
    StableHlo.TRef.unary (.of main_while0b_call9_v0 : StableHlo.TRef sig ⟨S_, .f32⟩) (.of main_while0b_call9_v1 : StableHlo.TRef sig ⟨S5000, .f32⟩) (broadcastInDim S5000 ![] bcast_S_S5000),
    StableHlo.TRef.unary (.of main_while0b_call9_v1 : StableHlo.TRef sig ⟨S5000, .f32⟩) (.of main_while0b_call9_v2 : StableHlo.TRef sig ⟨S4x5000, .f32⟩) (broadcastInDim S4x5000 ![1] bcast_S5000_S4x5000_1),
    StableHlo.TRef.ternary (.of main_while0b_v200 : StableHlo.TRef sig ⟨S4x5000, .i1⟩) (.of main_while0b_call9_v2 : StableHlo.TRef sig ⟨S4x5000, .f32⟩) (.of main_v109_3 : StableHlo.TRef sig ⟨S4x5000, .f32⟩) (.of main_while0b_v201 : StableHlo.TRef sig ⟨S4x5000, .f32⟩) select ]
/-- Stretch `body8` touches TensorCore references only. -/
theorem body8_sub : (body8 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩

/-- The loop's body, stretch 9: 3 operations of a called function. -/
abbrev body9 : List (HloOp τ sig (Elt F)) :=
  [ StableHlo.TRef.unary (.of main_while0b_v141 : StableHlo.TRef sig ⟨S4, .i32⟩) (.of main_while0b_call10_v0 : StableHlo.TRef sig ⟨S1x4, .i32⟩) (broadcastInDim S1x4 ![1] bcast_S4_S1x4_1),
    StableHlo.TRef.nullary (.of main_while0b_call10_c : StableHlo.TRef sig ⟨S_, .i32⟩) (constantI S_ 32 0#32),
    StableHlo.TRef.binaryIndexed (.of main_v109_4 : StableHlo.TRef sig ⟨S100x4, .i32⟩) (.of main_while0b_call10_v0 : StableHlo.TRef sig ⟨S1x4, .i32⟩) ![(.of main_v109_2 : StableHlo.TRef sig ⟨S_, .i32⟩), (.of main_while0b_call10_c : StableHlo.TRef sig ⟨S_, .i32⟩)] (.of main_while0b_v202 : StableHlo.TRef sig ⟨S100x4, .i32⟩) (fun x u i => Host.dynamicUpdateSlice x u (fun k => (i k (Shape.Idx.first h_S_)).toInt) updateFits_S100x4_S1x4) ]
/-- Stretch `body9` touches TensorCore references only. -/
theorem body9_sub : (body9 : List (HloOp τ sig (Elt F))).Forall fun op => op.bufs ⊆ StableHlo.tcRefs τ sig :=
  ⟨StableHlo.unary_bufs_sub .., StableHlo.nullary_bufs_sub .., StableHlo.binaryIndexed_bufs_sub ..⟩

/-- The loop's body, stretch 10: 3 operations of a called function. -/
abbrev body10 : List (HloOp τ sig (Elt F)) :=
  [ StableHlo.TRef.unary (.of main_while0b_v144 : StableHlo.TRef sig ⟨S4, .i1⟩) (.of main_while0b_call11_v0 : StableHlo.TRef sig ⟨S1x4, .i1⟩) (broadcastInDim S1x4 ![1] bcast_S4_S1x4_1),
    StableHlo.TRef.nullary (.of main_while0b_call11_c : StableHlo.TRef sig ⟨S_, .i32⟩) (constantI S_ 32 0#32),
    StableHlo.TRef.binaryIndexed (.of main_v109_5 : StableHlo.TRef sig ⟨S100x4, .i1⟩) (.of main_while0b_call11_v0 : StableHlo.TRef sig ⟨S1x4, .i1⟩) ![(.of main_v109_2 : StableHlo.TRef sig ⟨S_, .i32⟩), (.of main_while0b_call11_c : StableHlo.TRef sig ⟨S_, .i32⟩)] (.of main_while0b_v203 : StableHlo.TRef sig ⟨S100x4, .i1⟩) (fun x u i => Host.dynamicUpdateSlice x u (fun k => (i k (Shape.Idx.first h_S_)).toInt) updateFits_S100x4_S1x4) ]
/-- Stretch `body10` touches TensorCore references only. -/
theorem body10_sub : (body10 : List (HloOp τ sig (Elt F))).Forall fun op => op.bufs ⊆ StableHlo.tcRefs τ sig :=
  ⟨StableHlo.unary_bufs_sub .., StableHlo.nullary_bufs_sub .., StableHlo.binaryIndexed_bufs_sub ..⟩

/-- The loop's body, stretch 11: 6 operations. -/
abbrev body11 : List (HloOp τ sig (Elt F)) :=
  [ StableHlo.nullary main_while0b_c_29 (constantI S_ 32 1#32),
    StableHlo.binary main_v109_2 main_while0b_c_29 main_while0b_v204 (addi : (⟨S_, .i32⟩ : BufTy).Contents (Elt F) → (⟨S_, .i32⟩ : BufTy).Contents (Elt F) → (⟨S_, .i32⟩ : BufTy).Contents (Elt F)),
    StableHlo.unary main_while0b_v204 main_v109_2 id,
    StableHlo.unary main_while0b_v201 main_v109_3 id,
    StableHlo.unary main_while0b_v202 main_v109_4 id,
    StableHlo.unary main_while0b_v203 main_v109_5 id ]
/-- Stretch `body11` touches TensorCore references only. -/
theorem body11_sub : (body11 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- The loop's body: its stretches in order. -/
abbrev bodyI : List (List (HloOp τ sig (Elt F))) :=
  [body0, body1, body2, body3, body4, body5, body6, body7, body8, body9, body10, body11]
/-- The loop's body: nothing but TensorCore references is touched and nothing is allocated. -/
theorem bodyI_plain : StableHlo.Plain (bodyI (F := F)) :=
  .cons body0_sub <| .cons body1_sub <| .cons body2_sub <| .cons body3_sub <| .cons body4_sub <| .cons body5_sub <| .cons body6_sub <| .cons body7_sub <| .cons body8_sub <| .cons body9_sub <| .cons body10_sub <| .cons body11_sub <| .nil

/-- @main after the loop, stretch 0: 37 operations. -/
abbrev post0 : List (HloOp τ sig (Elt F)) :=
  [ StableHlo.nullary main_c_11 (constantI S_ 32 0#32),
    StableHlo.unary main_c_11 main_v110 (broadcastInDim S100x4 ![] bcast_S_S100x4 : (⟨S_, .i32⟩ : BufTy).Contents (Elt F) → (⟨S100x4, .i32⟩ : BufTy).Contents (Elt F)),
    StableHlo.binary main_v109_4 main_v110 main_v111 (cmpi .slt : (⟨S100x4, .i32⟩ : BufTy).Contents (Elt F) → (⟨S100x4, .i32⟩ : BufTy).Contents (Elt F) → (⟨S100x4, .i1⟩ : BufTy).Contents (Elt F)),
    StableHlo.nullary main_c_12 (constantI S_ 32 5000#32),
    StableHlo.unary main_c_12 main_v112 (broadcastInDim S100x4 ![] bcast_S_S100x4 : (⟨S_, .i32⟩ : BufTy).Contents (Elt F) → (⟨S100x4, .i32⟩ : BufTy).Contents (Elt F)),
    StableHlo.binary main_v109_4 main_v112 main_v113 (addi : (⟨S100x4, .i32⟩ : BufTy).Contents (Elt F) → (⟨S100x4, .i32⟩ : BufTy).Contents (Elt F) → (⟨S100x4, .i32⟩ : BufTy).Contents (Elt F)),
    StableHlo.ternary main_v111 main_v113 main_v109_4 main_v114 (select : (⟨S100x4, .i1⟩ : BufTy).Contents (Elt F) → (⟨S100x4, .i32⟩ : BufTy).Contents (Elt F) → (⟨S100x4, .i32⟩ : BufTy).Contents (Elt F) → (⟨S100x4, .i32⟩ : BufTy).Contents (Elt F)),
    StableHlo.unary main_v114 main_v115 ((transpose S4x100 [1, 0] · transposes_S100x4_S4x100_1_0) : (⟨S100x4, .i32⟩ : BufTy).Contents (Elt F) → (⟨S4x100, .i32⟩ : BufTy).Contents (Elt F)),
    StableHlo.unary main_v115 main_v116 (broadcastInDim S4x100x1 ![0, 1] bcast_S4x100_S4x100x1_0_1 : (⟨S4x100, .i32⟩ : BufTy).Contents (Elt F) → (⟨S4x100x1, .i32⟩ : BufTy).Contents (Elt F)),
    StableHlo.binary main_v83 main_v116 main_v117 ((fun x i => Host.gather gather_S4x5000x4_S4x100x1_S4x100x4_2_1_0_0_1_2_114 x i) : (⟨S4x5000x4, .f32⟩ : BufTy).Contents (Elt F) → (⟨S4x100x1, .i32⟩ : BufTy).Contents (Elt F) → (⟨S4x100x4, .f32⟩ : BufTy).Contents (Elt F)),
    StableHlo.nullary main_c_13 (constantI S_ 32 0#32),
    StableHlo.unary main_c_13 main_v118 (broadcastInDim S100x4 ![] bcast_S_S100x4 : (⟨S_, .i32⟩ : BufTy).Contents (Elt F) → (⟨S100x4, .i32⟩ : BufTy).Contents (Elt F)),
    StableHlo.binary main_v109_4 main_v118 main_v119 (cmpi .slt : (⟨S100x4, .i32⟩ : BufTy).Contents (Elt F) → (⟨S100x4, .i32⟩ : BufTy).Contents (Elt F) → (⟨S100x4, .i1⟩ : BufTy).Contents (Elt F)),
    StableHlo.nullary main_c_14 (constantI S_ 32 5000#32),
    StableHlo.unary main_c_14 main_v120 (broadcastInDim S100x4 ![] bcast_S_S100x4 : (⟨S_, .i32⟩ : BufTy).Contents (Elt F) → (⟨S100x4, .i32⟩ : BufTy).Contents (Elt F)),
    StableHlo.binary main_v109_4 main_v120 main_v121 (addi : (⟨S100x4, .i32⟩ : BufTy).Contents (Elt F) → (⟨S100x4, .i32⟩ : BufTy).Contents (Elt F) → (⟨S100x4, .i32⟩ : BufTy).Contents (Elt F)),
    StableHlo.ternary main_v119 main_v121 main_v109_4 main_v122 (select : (⟨S100x4, .i1⟩ : BufTy).Contents (Elt F) → (⟨S100x4, .i32⟩ : BufTy).Contents (Elt F) → (⟨S100x4, .i32⟩ : BufTy).Contents (Elt F) → (⟨S100x4, .i32⟩ : BufTy).Contents (Elt F)),
    StableHlo.unary main_v122 main_v123 ((transpose S4x100 [1, 0] · transposes_S100x4_S4x100_1_0) : (⟨S100x4, .i32⟩ : BufTy).Contents (Elt F) → (⟨S4x100, .i32⟩ : BufTy).Contents (Elt F)),
    StableHlo.unary main_v123 main_v124 (broadcastInDim S4x100x1 ![0, 1] bcast_S4x100_S4x100x1_0_1 : (⟨S4x100, .i32⟩ : BufTy).Contents (Elt F) → (⟨S4x100x1, .i32⟩ : BufTy).Contents (Elt F)),
    StableHlo.binary main_v2 main_v124 main_v125 ((fun x i => Host.gather gather_S4x5000_S4x100x1_S4x100_n_1_0_0_1_2_11 x i) : (⟨S4x5000, .i32⟩ : BufTy).Contents (Elt F) → (⟨S4x100x1, .i32⟩ : BufTy).Contents (Elt F) → (⟨S4x100, .i32⟩ : BufTy).Contents (Elt F)),
    StableHlo.unary main_v125 main_v126 (sitofp .f32 : (⟨S4x100, .i32⟩ : BufTy).Contents (Elt F) → (⟨S4x100, .f32⟩ : BufTy).Contents (Elt F)),
    StableHlo.unary main_v126 main_v127 (broadcastInDim S4x100x1 ![0, 1] bcast_S4x100_S4x100x1_0_1 : (⟨S4x100, .f32⟩ : BufTy).Contents (Elt F) → (⟨S4x100x1, .f32⟩ : BufTy).Contents (Elt F)),
    StableHlo.nullary main_c_15 (constantI S_ 32 0#32),
    StableHlo.unary main_c_15 main_v128 (broadcastInDim S100x4 ![] bcast_S_S100x4 : (⟨S_, .i32⟩ : BufTy).Contents (Elt F) → (⟨S100x4, .i32⟩ : BufTy).Contents (Elt F)),
    StableHlo.binary main_v109_4 main_v128 main_v129 (cmpi .slt : (⟨S100x4, .i32⟩ : BufTy).Contents (Elt F) → (⟨S100x4, .i32⟩ : BufTy).Contents (Elt F) → (⟨S100x4, .i1⟩ : BufTy).Contents (Elt F)),
    StableHlo.nullary main_c_16 (constantI S_ 32 5000#32),
    StableHlo.unary main_c_16 main_v130 (broadcastInDim S100x4 ![] bcast_S_S100x4 : (⟨S_, .i32⟩ : BufTy).Contents (Elt F) → (⟨S100x4, .i32⟩ : BufTy).Contents (Elt F)),
    StableHlo.binary main_v109_4 main_v130 main_v131 (addi : (⟨S100x4, .i32⟩ : BufTy).Contents (Elt F) → (⟨S100x4, .i32⟩ : BufTy).Contents (Elt F) → (⟨S100x4, .i32⟩ : BufTy).Contents (Elt F)),
    StableHlo.ternary main_v129 main_v131 main_v109_4 main_v132 (select : (⟨S100x4, .i1⟩ : BufTy).Contents (Elt F) → (⟨S100x4, .i32⟩ : BufTy).Contents (Elt F) → (⟨S100x4, .i32⟩ : BufTy).Contents (Elt F) → (⟨S100x4, .i32⟩ : BufTy).Contents (Elt F)),
    StableHlo.unary main_v132 main_v133 ((transpose S4x100 [1, 0] · transposes_S100x4_S4x100_1_0) : (⟨S100x4, .i32⟩ : BufTy).Contents (Elt F) → (⟨S4x100, .i32⟩ : BufTy).Contents (Elt F)),
    StableHlo.unary main_v133 main_v134 (broadcastInDim S4x100x1 ![0, 1] bcast_S4x100_S4x100x1_0_1 : (⟨S4x100, .i32⟩ : BufTy).Contents (Elt F) → (⟨S4x100x1, .i32⟩ : BufTy).Contents (Elt F)),
    StableHlo.binary main_v5 main_v134 main_v135 ((fun x i => Host.gather gather_S4x5000_S4x100x1_S4x100_n_1_0_0_1_2_11 x i) : (⟨S4x5000, .f32⟩ : BufTy).Contents (Elt F) → (⟨S4x100x1, .i32⟩ : BufTy).Contents (Elt F) → (⟨S4x100, .f32⟩ : BufTy).Contents (Elt F)),
    StableHlo.unary main_v135 main_v136 (broadcastInDim S4x100x1 ![0, 1] bcast_S4x100_S4x100x1_0_1 : (⟨S4x100, .f32⟩ : BufTy).Contents (Elt F) → (⟨S4x100x1, .f32⟩ : BufTy).Contents (Elt F)),
    StableHlo.nary ![main_v117, main_v127, main_v136] main_v137 (fun u => (concatenate S4x100x6 2 [⟨S4x100x4, (u 0 : (⟨S4x100x4, .f32⟩ : BufTy).Contents (Elt F))⟩, ⟨S4x100x1, (u 1 : (⟨S4x100x1, .f32⟩ : BufTy).Contents (Elt F))⟩, ⟨S4x100x1, (u 2 : (⟨S4x100x1, .f32⟩ : BufTy).Contents (Elt F))⟩] concatenates_S4x100x4_S4x100x1_S4x100x1_S4x100x6_d2 : (⟨S4x100x6, .f32⟩ : BufTy).Contents (Elt F))),
    StableHlo.unary main_v109_5 main_v138 ((transpose S4x100 [1, 0] · transposes_S100x4_S4x100_1_0) : (⟨S100x4, .i1⟩ : BufTy).Contents (Elt F) → (⟨S4x100, .i1⟩ : BufTy).Contents (Elt F)),
    StableHlo.unary main_v138 main_v139 (broadcastInDim S4x100x1 ![0, 1] bcast_S4x100_S4x100x1_0_1 : (⟨S4x100, .i1⟩ : BufTy).Contents (Elt F) → (⟨S4x100x1, .i1⟩ : BufTy).Contents (Elt F)),
    StableHlo.nullary main_cst_17 (constant S_ .f32 0x00000000#32) ]
/-- Stretch `post0` touches TensorCore references only. -/
theorem post0_sub : (post0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.unary_bufs_sub .., StableHlo.nary_bufs_sub .., StableHlo.unary_bufs_sub .., StableHlo.unary_bufs_sub .., StableHlo.nullary_bufs_sub ..⟩

/-- @main after the loop, stretch 1: 5 operations of a called function. -/
abbrev post1 : List (HloOp τ sig (Elt F)) :=
  [ StableHlo.TRef.unary (.of main_cst_17 : StableHlo.TRef sig ⟨S_, .f32⟩) (.of main_call12_v0 : StableHlo.TRef sig ⟨S_, .f32⟩) id,
    StableHlo.TRef.unary (.of main_v139 : StableHlo.TRef sig ⟨S4x100x1, .i1⟩) (.of main_call12_v1 : StableHlo.TRef sig ⟨S4x100x6, .i1⟩) (broadcastInDim S4x100x6 ![0, 1, 2] bcast_S4x100x1_S4x100x6_0_1_2),
    StableHlo.TRef.unary (.of main_call12_v0 : StableHlo.TRef sig ⟨S_, .f32⟩) (.of main_call12_v2 : StableHlo.TRef sig ⟨S100x6, .f32⟩) (broadcastInDim S100x6 ![] bcast_S_S100x6),
    StableHlo.TRef.unary (.of main_call12_v2 : StableHlo.TRef sig ⟨S100x6, .f32⟩) (.of main_call12_v3 : StableHlo.TRef sig ⟨S4x100x6, .f32⟩) (broadcastInDim S4x100x6 ![1, 2] bcast_S100x6_S4x100x6_1_2),
    StableHlo.TRef.ternary (.of main_call12_v1 : StableHlo.TRef sig ⟨S4x100x6, .i1⟩) (.of main_v137 : StableHlo.TRef sig ⟨S4x100x6, .f32⟩) (.of main_call12_v3 : StableHlo.TRef sig ⟨S4x100x6, .f32⟩) (.of main_v140 : StableHlo.TRef sig ⟨S4x100x6, .f32⟩) select ]
/-- Stretch `post1` touches TensorCore references only. -/
theorem post1_sub : (post1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩

/-- @main after the loop: its stretches in order. -/
abbrev postI : List (List (HloOp τ sig (Elt F))) :=
  [post0, post1]
/-- @main after the loop: nothing but TensorCore references is touched and nothing is allocated. -/
theorem postI_plain : StableHlo.Plain (postI (F := F)) :=
  .cons post0_sub <| .cons post1_sub <| .nil

/-- @main is its stretches in order, the loop entered between them. -/
theorem main_chain (c : Dev nD) : main (F := F) c =
    Pipeline.chain (((preI (F := F)).map StableHlo.seq) ++ HostLoop.enter 0 :: (postI (F := F)).map StableHlo.seq) := by
  simp only [List.map_cons, List.map_nil, List.cons_append, List.nil_append]
  rewrite [StableHlo.chain_seq_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, StableHlo.chain_seq_cons, Pipeline.chain_cons, StableHlo.chain_seq_cons, Pipeline.chain_cons]
  chain_rfl

/-- The loop's body is its stretches in order. -/
theorem body_chain : main_while0_body (F := F) = Pipeline.chain ((bodyI (F := F)).map StableHlo.seq) := by
  simp only [List.map_cons, List.map_nil]
  rewrite [Pipeline.chain_cons, Pipeline.chain_cons, StableHlo.chain_seq_cons, Pipeline.chain_cons, StableHlo.chain_seq_cons, Pipeline.chain_cons, StableHlo.chain_seq_cons, StableHlo.chain_seq_cons, Pipeline.chain_cons, Pipeline.chain_cons, Pipeline.chain_cons, StableHlo.chain_seq_cons]
  chain_rfl

end Cert.ReferenceIdeal.Body

end
-- ==== Proof.RunReferenceIdeal.lean ====
/-
  The reference's run: its host loop makes a hundred trips, so every buffer ends at the fold of the operations in order; the arguments are never written.
-/
module

public import proofs.«01_k».proof.Proof.RefOps
public import Idealize.ShloMosaic.Lib.Quiescent
public import Idealize.ShloMosaic.Lib.Tactic

@[expose] public section

set_option maxRecDepth 16384

noncomputable section

namespace Cert.ReferenceIdeal.Body

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (after held afterL)

variable {F : FTy → Type} [FloatOps F]

/-- The loop's condition, as a list: the bound and the comparison. -/
abbrev condOps : List (HloOp τ sig (Elt F)) :=
  [ StableHlo.nullary main_while0c_c_23 (constantI S_ 32 100#32),
    StableHlo.binary main_v109_2 main_while0c_c_23 main_while0c_v141 (cmpi .slt : (⟨S_, .i32⟩ : BufTy).Contents (Elt F) → (⟨S_, .i32⟩ : BufTy).Contents (Elt F) → (⟨S_, .i1⟩ : BufTy).Contents (Elt F)) ]

/-- One trip of the loop on every buffer: the condition's operations, then the body's. -/
abbrev trip (V : Valuation τ sig (Elt F)) : Valuation τ sig (Elt F) := afterL bodyI (after condOps V)

/-- The counter starts at zero. -/
theorem ctr_entry (V : Valuation τ sig (Elt F)) : afterL preI V (Proc.devRef .tc main_v109_2) = constantI S_ 32 0#32 := by
  simp only [StableHlo.afterL_cons, StableHlo.afterL_nil]
  after_reads_simp
  try rfl

/-- One trip adds one to the counter. -/
theorem ctr_trip (V : Valuation τ sig (Elt F)) : trip V (Proc.devRef .tc main_v109_2) = addi (V (Proc.devRef .tc main_v109_2)) (constantI S_ 32 1#32) := by
  simp only [trip, StableHlo.afterL_cons, StableHlo.afterL_nil]
  after_reads_simp
  try rfl

/-- A buffer that no operation before the loop, of the loop or after it writes keeps its contents. -/
theorem entry_arg0 (V : Valuation τ sig (Elt F)) : afterL preI V (Proc.devRef .tc main_arg0) = V (Proc.devRef .tc main_arg0) := by
  simp only [StableHlo.afterL_cons, StableHlo.afterL_nil]; after_reads_simp
/-- The lines before the loop do not write the second argument. -/
theorem entry_arg1 (V : Valuation τ sig (Elt F)) : afterL preI V (Proc.devRef .tc main_arg1) = V (Proc.devRef .tc main_arg1) := by
  simp only [StableHlo.afterL_cons, StableHlo.afterL_nil]; after_reads_simp
/-- A trip does not write the first argument. -/
theorem trip_arg0 (V : Valuation τ sig (Elt F)) : trip V (Proc.devRef .tc main_arg0) = V (Proc.devRef .tc main_arg0) := by
  simp only [trip, StableHlo.afterL_cons, StableHlo.afterL_nil]; after_reads_simp
/-- A trip does not write the second argument. -/
theorem trip_arg1 (V : Valuation τ sig (Elt F)) : trip V (Proc.devRef .tc main_arg1) = V (Proc.devRef .tc main_arg1) := by
  simp only [trip, StableHlo.afterL_cons, StableHlo.afterL_nil]; after_reads_simp
/-- The lines after the loop do not write the first argument. -/
theorem exit_arg0 (V : Valuation τ sig (Elt F)) : afterL postI (after condOps V) (Proc.devRef .tc main_arg0) = V (Proc.devRef .tc main_arg0) := by
  simp only [StableHlo.afterL_cons, StableHlo.afterL_nil]; after_reads_simp
/-- The lines after the loop do not write the second argument. -/
theorem exit_arg1 (V : Valuation τ sig (Elt F)) : afterL postI (after condOps V) (Proc.devRef .tc main_arg1) = V (Proc.devRef .tc main_arg1) := by
  simp only [StableHlo.afterL_cons, StableHlo.afterL_nil]; after_reads_simp

/-- Before trip `k` the counter holds `k`. -/
theorem ctr_at (m : (ℓ : Loc nD τ sig) → Buf (Elt F) ℓ) (c : Dev nD) (k : ℕ) :
    StableHlo.atTrip condOps bodyI (StableHlo.entryContents preI m) k c (Proc.devRef .tc main_v109_2) = fun _ => BitVec.ofNat 32 k := by
  induction k with
  | zero => exact ctr_entry _
  | succ k ih =>
    rw [StableHlo.atTrip_succ]
    refine (ctr_trip _).trans ?_
    rw [ih]
    funext i
    show BitVec.ofNat 32 k + 1#32 = BitVec.ofNat 32 (k + 1)
    rw [BitVec.ofNat_add]

/-- Up to the hundredth test the counter is below the bound exactly when a trip is left. -/
theorem below_iff (k : ℕ) (hk : k ≤ 100) : IntOp.cmpi .slt (BitVec.ofNat 32 k) 100#32 = 1#1 ↔ k < 100 := by
  revert hk; revert k; decide

/-- An operation on unscoped references touches only those the run holds. -/
theorem sub_unscoped (op : HloOp τ sig (Elt F)) (h : op.bufs ⊆ StableHlo.tcRefs τ sig) : op.bufs ⊆ Pipeline.ucRefs τ sig := fun b hb =>
  Finset.mem_filter.mpr ⟨h hb, fun h' => Bool.false_ne_true ((op.no_scoped b hb).symm.trans h')⟩

set_option backward.isDefEq.respectTransparency.types false in
/-- The condition, run for the `k`-th time, says whether `k < 100` and leaves its two operations' results. -/
theorem cond_spec (m : (ℓ : Loc nD τ sig) → Buf (Elt F) ℓ) :
    StableHlo.CondSpec (pcfgs (F := F)) defs₀ loops main_while0_cond condOps bodyI (StableHlo.entryContents preI m) 100 := by
  intro k hk c bd
  have hctr := ctr_at m c k
  generalize StableHlo.atTrip condOps bodyI (StableHlo.entryContents preI m) k c = V at hctr ⊢
  unfold main_while0_cond
  rw [wp_bind]
  iintro ⟨Hb, Hh⟩
  iapply (StableHlo.wp_hlo_within (Variants.lift Variants.none) (c : Thread nD τ) bd Set.univ (sub_unscoped _ (StableHlo.nullary_bufs_sub ..))) $$ [Hb Hh]
  · isplitl [Hb]; · iexact Hb
    iexact Hh
  iintro ⟨Hb, Hh⟩
  rw [wp_ret]; imodintro
  simp only [bind_pure]
  iapply (StableHlo.wp_hlo_within (Variants.lift Variants.none) (c : Thread nD τ) bd Set.univ (sub_unscoped _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ V (Proc.devRef .tc main_v109_2) HostLoop.idx0)
        (HloOp.result _ V (Proc.devRef .tc main_while0c_c_23) HostLoop.idx0) = 1#1) (k < 100)
    rw [StableHlo.nullary_result_ne _ _ _ _ (by decide), StableHlo.nullary_result, hctr]
    exact below_iff k hk
  isplitl [Hb]; · iexact Hb
  rw [StableHlo.after_cons, StableHlo.after_cons, StableHlo.after_nil]; iexact Hh

/-- What every buffer holds at the end. -/
abbrev final (m : (ℓ : Loc nD τ sig) → Buf (Elt F) ℓ) (c : Dev nD) : Valuation τ sig (Elt F) :=
  StableHlo.finalContents condOps preI bodyI postI 100 m c

/-- An argument is read and never written. -/
theorem final_arg0 (m : (ℓ : Loc nD τ sig) → Buf (Elt F) ℓ) (c : Dev nD) : final m c (Proc.devRef .tc main_arg0) = m ((c.tc : Thread nD τ).loc main_arg0) := by
  refine (exit_arg0 _).trans ?_
  have h : ∀ k, StableHlo.atTrip condOps bodyI (StableHlo.entryContents preI m) k c (Proc.devRef .tc main_arg0) = m ((c.tc : Thread nD τ).loc main_arg0) := fun k => by
    induction k with
    | zero => exact entry_arg0 _
    | succ k ih => rw [StableHlo.atTrip_succ]; exact (trip_arg0 _).trans ih
  exact h 100
/-- An argument is read and never written. -/
theorem final_arg1 (m : (ℓ : Loc nD τ sig) → Buf (Elt F) ℓ) (c : Dev nD) : final m c (Proc.devRef .tc main_arg1) = m ((c.tc : Thread nD τ).loc main_arg1) := by
  refine (exit_arg1 _).trans ?_
  have h : ∀ k, StableHlo.atTrip condOps bodyI (StableHlo.entryContents preI m) k c (Proc.devRef .tc main_arg1) = m ((c.tc : Thread nD τ).loc main_arg1) := fun k => by
    induction k with
    | zero => exact entry_arg1 _
    | succ k ih => rw [StableHlo.atTrip_succ]; exact (trip_arg1 _).trans ih
  exact h 100

/-- The run: every execution ends with every buffer at `final` and no semaphore raised. -/
theorem run_main [∀ e, Nonempty (Elt F e)] (m : (ℓ : Loc nD τ sig) → Buf (Elt F) ℓ) (ρ : Dev nD → PrngReg) :
    θ_run defs (onTc (τ := τ) main) ⟨m, fun _ => 0, ρ⟩
      (fun r => (∀ (c : Dev nD) (b : Ref sig .tc), (Proc.devRef .tc b : DevRef τ sig).isScoped = false →
        r.2.mem ((c.tc : Thread nD τ).loc b) = final m c (Proc.devRef .tc b)) ∧ r.2.sem = fun _ => 0) :=
  (StableHlo.run_loop pcfgs defs₀ loops main 0 main_while0_cond main_while0_body rfl preI bodyI postI condOps
    preI_plain bodyI_plain postI_plain main_chain body_chain 100 m ρ (cond_spec m)).mono
    fun r h => ⟨h, sem_eq_zero_of_no_sems (by decide) _⟩

end Cert.ReferenceIdeal.Body

end
-- ==== Proof.Nms.lean ====
/-
  Greedy suppression over one row, in plain mathematics: the first box of greatest score, how much two boxes overlap, one
  round of suppression, and that a row lengthened by dropped boxes goes through the same rounds as the row itself.
-/
module

public import Idealize.ShloMosaic.Lib.Pointwise
public import Idealize.ShloMosaic.PureOps
public import Mathlib.Data.Finset.Max

@[expose] public section

noncomputable section

namespace Cert.Nms

open Idealize.ShloMosaic

/-- `p` is the first place where `s` is greatest. -/
def Top {n : ℕ} (s : Fin n → EReal) (p : Fin n) : Prop := (∀ j, s j ≤ s p) ∧ ∀ j, s j = s p → p ≤ j

/-- A row that is not empty has such a place. -/
theorem exists_top {n : ℕ} (hn : 0 < n) (s : Fin n → EReal) : ∃ p, Top s p := by
  haveI : Nonempty (Fin n) := ⟨⟨0, hn⟩⟩
  obtain ⟨q, hq⟩ := Finite.exists_max s
  obtain ⟨p, hp, hmin⟩ := Finset.exists_min_image (Finset.univ.filter fun p => ∀ j, s j ≤ s p) id ⟨q, by simpa using hq⟩
  have hp' : ∀ j, s j ≤ s p := by simpa using hp
  exact ⟨p, hp', fun j hj => hmin j (by simp only [Finset.mem_filter, Finset.mem_univ, true_and]; intro i; rw [hj]; exact hp' i)⟩

/-- And only one. -/
theorem Top.unique {n : ℕ} {s : Fin n → EReal} {p q : Fin n} (hp : Top s p) (hq : Top s q) : p = q :=
  have e : s p = s q := le_antisymm (hq.1 p) (hp.1 q)
  le_antisymm (hp.2 q e.symm) (hq.2 p e)

/-- The greatest value is the value there. -/
theorem fold_max_top {n : ℕ} {s : Fin n → EReal} {p : Fin n} (h : Top s p) {a : EReal} (ha : a = ⊥) : Finset.fold max a s Finset.univ = s p := by
  subst ha
  refine le_antisymm (Finset.fold_max_le _ |>.2 ⟨bot_le, fun j _ => h.1 j⟩) (Finset.le_fold_max _ |>.2 (.inr ⟨p, Finset.mem_univ _, le_rfl⟩))

/-- Minus infinity is the least value. -/
theorem ofBits_ninf : Ideal.ofBits .f32 0xFF800000#32 = ⊥ := by simp [Ideal.ofBits, Ideal.ieee]

/-- The smaller of two words, read as a number. -/
theorem toInt_minsi (x y : BitVec 32) : (IntOp.minsi x y).toInt = min x.toInt y.toInt := by
  unfold IntOp.minsi
  rw [BitVec.slt_eq_decide]
  by_cases h : x.toInt < y.toInt
  · simp [h, h.le]
  · simp [h, not_lt.1 h]

/-- A small number is what its word reads. -/
theorem toInt_ofNat {k : ℕ} (h : k < 2147483648) : (BitVec.ofNat 32 k).toInt = (k : ℤ) := by
  rw [BitVec.toInt_ofNat']
  have : (2 : ℕ) ^ 31 = 2147483648 := by norm_num
  have : (2 : ℕ) ^ 32 = 4294967296 := by norm_num
  simp only [Int.bmod_def]
  omega

/-- Words of small numbers are equal only if the numbers are. -/
theorem ofNat_inj {a b : ℕ} (ha : a < 2147483648) (hb : b < 2147483648) : BitVec.ofNat 32 a = BitVec.ofNat 32 b ↔ a = b := by
  refine ⟨fun h => ?_, fun h => by rw [h]⟩
  have := congrArg BitVec.toInt h
  rw [toInt_ofNat ha, toInt_ofNat hb] at this
  omega

/-- The least number among the places of greatest score is the first of them. -/
theorem fold_minsi_top {n : ℕ} (hn : n < 5121) {s : Fin n → EReal} {p : Fin n} (h : Top s p) {a : EReal} (ha : a = s p) :
    Finset.fold IntOp.minsi 2147483647#32 (fun x : Fin n => if s x = a then BitVec.ofNat 32 ↑x else 5121#32) Finset.univ = BitVec.ofNat 32 ↑p := by
  subst ha
  apply BitVec.eq_of_toInt_eq
  rw [← Finset.fold_hom (op' := min) (m := BitVec.toInt) toInt_minsi, toInt_ofNat (k := p.val) (by omega)]
  have hlast : (2147483647#32).toInt = 2147483647 := rfl
  have hbig : (5121#32).toInt = 5121 := rfl
  refine le_antisymm (Finset.fold_min_le _ |>.2 (.inr ⟨p, Finset.mem_univ _, ?_⟩)) (Finset.le_fold_min _ |>.2 ⟨by rw [hlast]; omega, fun j _ => ?_⟩)
  · rw [if_pos rfl, toInt_ofNat (by omega)]
  · by_cases hj : s j = s p
    · rw [if_pos hj, toInt_ofNat (by omega)]
      have := h.2 j hj
      exact_mod_cast this
    · rw [if_neg hj, hbig]; omega

/-! ## Overlap -/

/-- The area two boxes `y1, x1, y2, x2` share. -/
def share (a b : Fin 4 → EReal) : EReal := max (min (a 2) (b 2) - max (a 0) (b 0)) 0 * max (min (a 3) (b 3) - max (a 1) (b 1)) 0

/-- The area of a box. -/
def area (a : Fin 4 → EReal) : EReal := (a 2 - a 0) * (a 3 - a 1)

/-- The shared area over the joint one. -/
def over (a b : Fin 4 → EReal) : EReal := Ideal.div (share a b) (area a + area b - share a b + Ideal.ofBits .f32 0x322BCC77#32)

/-- The score of a dropped box. -/
def gone : EReal := Ideal.ofBits .f32 0xBF800000#32

/-- The score of a removed box is -1. -/
theorem gone_eq : gone = -1 := IdealRules.sign_bit.ideal_negOnePat .f32

/-- It is not above zero. -/
theorem not_pos_gone : ¬ 0 < gone := by
  rw [gone_eq]; simp

open Classical in
/-- One round: if the best score is above zero, the best box and every box that overlaps it too much are dropped. -/
def next {n : ℕ} (box : Fin n → Fin 4 → EReal) (p : Fin n) (s : Fin n → EReal) (j : Fin n) : EReal :=
  if 0 < s p ∧ (Ideal.ofBits .f32 0x3E99999A#32 < over (box p) (box j) ∨ j = p) then gone else s j

/-! ## A lengthened row -/

/-- Place `j` of the row, in the lengthened one. -/
def wide (j : Fin 5000) : Fin 5120 := ⟨j.val, by omega⟩

/-- `s` is `s'` followed by dropped boxes; what is not of `K` is dropped. -/
structure Rel (K : Fin 5000 → Prop) (s : Fin 5120 → EReal) (s' : Fin 5000 → EReal) : Prop where
  same : ∀ j, s (wide j) = s' j
  tail : ∀ j : Fin 5120, 5000 ≤ j.val → s j = gone
  out : ∀ j, ¬ K j → s' j = gone

variable {K : Fin 5000 → Prop} {s : Fin 5120 → EReal} {s' : Fin 5000 → EReal} {p : Fin 5120} {p' : Fin 5000}

/-- If the best score of the lengthened row is above zero, it is the row's, and at the same place. -/
theorem Rel.top (h : Rel K s s') (hp : Top s p) (hp' : Top s' p') (h0 : 0 < s p) : p = wide p' ∧ K p' ∧ s' p' = s p := by
  have hlt : p.val < 5000 := by
    by_contra hc
    rw [h.tail p (by omega)] at h0
    exact not_pos_gone h0
  have ew : p = wide ⟨p.val, hlt⟩ := rfl
  have es : s' ⟨p.val, hlt⟩ = s p := by rw [← h.same]; rfl
  have ht : Top s' ⟨p.val, hlt⟩ := by
    refine ⟨fun j => ?_, fun j hj => ?_⟩
    · rw [es, ← h.same]; exact hp.1 _
    · rw [es, ← h.same] at hj
      exact hp.2 _ hj
  have e := hp'.unique ht
  subst e
  refine ⟨rfl, ?_, es⟩
  by_contra hK
  rw [← es, h.out _ hK] at h0
  exact not_pos_gone h0

/-- The row's best score is at most the lengthened row's. -/
theorem Rel.top_le (h : Rel K s s') (hp : Top s p) : s' p' ≤ s p := by rw [← h.same]; exact hp.1 _

/-- Both rows have a best score above zero, or neither. -/
theorem Rel.pos_iff (h : Rel K s s') (hp : Top s p) (hp' : Top s' p') : 0 < s p ↔ 0 < s' p' :=
  ⟨fun h0 => by rw [(h.top hp hp' h0).2.2]; exact h0, fun h0 => lt_of_lt_of_le h0 (h.top_le hp)⟩

/-- One round keeps the relation, if the boxes of `K` are the same in both rows. -/
theorem Rel.next (h : Rel K s s') (hp : Top s p) (hp' : Top s' p') {box : Fin 5120 → Fin 4 → EReal} {box' : Fin 5000 → Fin 4 → EReal}
    (hbox : ∀ j, K j → box (wide j) = box' j) : Rel K (next box p s) (next box' p' s') := by
  have hout : ∀ j, ¬ K j → Nms.next box' p' s' j = gone := fun j hj => by
    unfold Nms.next; split
    · rfl
    · exact h.out j hj
  refine ⟨fun j => ?_, fun j hj => ?_, hout⟩
  · by_cases hK : K j
    · by_cases h0 : 0 < s p
      · obtain ⟨e, hKp, es⟩ := h.top hp hp' h0
        subst e
        unfold Nms.next
        rw [hbox _ hKp, hbox _ hK, h.same j, h.same p']
        have : wide j = wide p' ↔ j = p' := by simp [wide, Fin.ext_iff]
        simp only [this]
      · unfold Nms.next
        rw [if_neg (fun hc => h0 hc.1), if_neg (fun hc => h0 ((h.pos_iff hp hp').2 hc.1)), h.same]
    · rw [hout j hK]
      unfold Nms.next; split
      · rfl
      · rw [h.same, h.out j hK]
  · unfold Nms.next; split
    · rfl
    · exact h.tail j hj

/-! ## Words of decided facts -/

/-- A choice by "`A`, and `B` or `C`". -/
theorem select_and_or {α : Type} (A B C : Prop) [Decidable A] [Decidable B] [Decidable C] (x y : α) :
    Scalar.select (IntOp.andi (BitVec.ofBool (decide A)) (IntOp.ori (BitVec.ofBool (decide B)) (BitVec.ofBool (decide C)))) x y
      = if A ∧ (B ∨ C) then x else y := by
  by_cases hA : A <;> by_cases hB : B <;> by_cases hC : C <;> simp [hA, hB, hC, Scalar.select, IntOp.andi, IntOp.ori]

/-- Equality of the words of two small numbers. -/
theorem cmpi_eq_ofNat {n : ℕ} (hn : n < 5121) (i j : Fin n) : IntOp.cmpi .eq (BitVec.ofNat 32 i) (BitVec.ofNat 32 j) = BitVec.ofBool (decide (i = j)) := by
  unfold IntOp.cmpi
  congr 1
  have : (BitVec.ofNat 32 i.val = BitVec.ofNat 32 j.val) ↔ i = j := by rw [ofNat_inj (by omega) (by omega), Fin.ext_iff]
  simp only [Bool.beq_eq_decide_eq, decide_eq_decide, this]

/-- The same, of plain numbers. -/
theorem cmpi_eq_nat {i j : ℕ} (hi : i < 2147483648) (hj : j < 2147483648) : IntOp.cmpi .eq (BitVec.ofNat 32 i) (BitVec.ofNat 32 j) = BitVec.ofBool (decide (i = j)) := by
  unfold IntOp.cmpi
  congr 1
  simp only [Bool.beq_eq_decide_eq, decide_eq_decide, ofNat_inj hi hj]

/-- A choice by a decided fact. -/
theorem select_dec {α : Type} (A : Prop) [Decidable A] (x y : α) : Scalar.select (BitVec.ofBool (decide A)) x y = if A then x else y := by
  by_cases h : A <;> simp [h, Scalar.select]

/-- The sum of what a mask of one place keeps. -/
theorem sum_mask {n : ℕ} (p : Fin n) (v : Fin n → EReal) : ∑ x, Scalar.select (BitVec.ofBool (decide (x = p))) (v x) 0 = v p := by
  have e : ∀ x, Scalar.select (BitVec.ofBool (decide (x = p))) (v x) 0 = if x = p then v x else 0 := fun x => by
    by_cases h : x = p <;> simp [h, Scalar.select]
  simp only [e, Finset.sum_ite_eq', Finset.mem_univ, if_true]

/-! ## A box before the first round -/

/-- The refined low edge of an interval `[x, y]` shifted by `d` and scaled by `e`. -/
def low (x y d e : EReal) : EReal :=
  x + Ideal.ofBits .f32 0x3F000000#32 * (y - x) + d * Ideal.ofBits .f32 0x3DCCCCCD#32 * (y - x)
    - Ideal.ofBits .f32 0x3F000000#32 * ((y - x) * Ideal.exp (e * Ideal.ofBits .f32 0x3E4CCCCD#32))

/-- The refined high edge. -/
def high (x y d e : EReal) : EReal := low x y d e + (y - x) * Ideal.exp (e * Ideal.ofBits .f32 0x3E4CCCCD#32)

/-- The refined, clipped coordinates `y1, x1, y2, x2` of the box `r` with the columns `d`. -/
def coord (r : Fin 4 → EReal) (d : Fin 6 → EReal) (c : Fin 4) : EReal :=
  min 1 (max 0 (![low (r 0) (r 2) (d 0) (d 2), low (r 1) (r 3) (d 1) (d 3), high (r 0) (r 2) (d 0) (d 2), high (r 1) (r 3) (d 1) (d 3)] c))

/-- The class id as a whole number. -/
def ident (d : Fin 6 → EReal) : BitVec 32 := FloatOps.fptosi (F := Ideal) (φ := .f32) 32 (d 4)

/-- The box is kept: its class id is above zero and its score is not below the threshold. -/
def Kept (d : Fin 6 → EReal) : Prop := (0#32).slt (ident d) = true ∧ Ideal.ofBits .f32 0x3F333333#32 ≤ d 5

open Classical in
/-- The score it starts with. -/
def score (d : Fin 6 → EReal) : EReal := if Kept d then d 5 else gone

/-- The choice that makes it. -/
theorem select_score (d : Fin 6 → EReal) :
    Scalar.select (IntOp.andi (IntOp.cmpi .sgt (FloatOps.fptosi (F := Ideal) (φ := .f32) 32 (d 4)) 0#32) (BitVec.ofBool (decide (Ideal.ofBits .f32 0x3F333333#32 ≤ d 5))))
      (d 5) (Ideal.ofBits .f32 0xBF800000#32) = score d := by
  unfold score Kept ident gone IntOp.cmpi
  cases h : (0#32).slt (FloatOps.fptosi (F := Ideal) (φ := .f32) 32 (d 4)) <;>
    by_cases h' : Ideal.ofBits .f32 0x3F333333#32 ≤ d 5 <;> simp [h, h', Scalar.select, IntOp.andi]

end Cert.Nms

end
-- ==== Proof.KerRead.lean ====
/-
  The kernel's functions, read at an index on the extended reals.
-/
module

public import proofs.«01_k».proof.Proof.RunKernelIdeal
public import proofs.«01_k».proof.Proof.Nms
public import Idealize.ShloMosaic.Lib.Pointwise

@[expose] public section

set_option maxRecDepth 16384

noncomputable section

namespace Cert.KernelIdeal.Body

open Cert.KernelIdeal Cert.KernelIdeal.Gen Cert.Nms
open Idealize.ShloMosaic Idealize.ShloMosaic.TcCoe Idealize.ShloMosaic.Tactic

/-- The greatest score of a row. -/
theorem best_at (s : FVec Ideal S4x5120 .f32) (b : Fin 4) (p : Fin 5120) (hp : Top (fun k => s (ix2 b k)) p) : k0_pay11 s (ix2 b 0) = s (ix2 b p) := by
  pointwise [k0_pay11]
  exact fold_max_top hp ofBits_ninf

/-- The mask of its first place. -/
theorem mask_at (s : FVec Ideal S4x5120 .f32) (b : Fin 4) (p j : Fin 5120) (hp : Top (fun k => s (ix2 b k)) p) :
    k0_pay12 lanes 5121#32 s (ix2 b j) = BitVec.ofBool (decide (j = p)) := by
  pointwise [k0_pay12, k0_pay11, lanes]
  rw [fold_minsi_top (by norm_num) hp (fold_max_top hp ofBits_ninf), cmpi_eq_ofNat (by norm_num)]

/-- Whether it is above zero. -/
theorem valid_at (s : FVec Ideal S4x5120 .f32) (b : Fin 4) (p : Fin 5120) (hp : Top (fun k => s (ix2 b k)) p) :
    k0_pay14 s (ix2 b 0) = BitVec.ofBool (decide (0 < s (ix2 b p))) := by
  pointwise [k0_pay14]
  rw [best_at s b p hp]

variable (v25 v27 v55 v59 v63 v67 : FVec Ideal S4x5120 .f32)

/-- The boxes of a row, moved apart by class. -/
def box (b : Fin 4) (j : Fin 5120) (c : Fin 4) : EReal :=
  (![v55, v59, v63, v67] c) (ix2 b j) + v25 (ix2 b j) * Ideal.ofBits .f32 0x40800000#32

/-- What a detection reports. -/
def det (b : Fin 4) (j : Fin 5120) (c : Fin 6) : EReal := (![v55, v59, v63, v67, v25, v27] c) (ix2 b j)

/-- The kernel's moved coordinate 0 of a box is `box` at 0. -/
theorem box0_at (b : Fin 4) (j : Fin 5120) : k0_pay3 v25 v55 (ix2 b j) = box v25 v55 v59 v63 v67 b j 0 := by
  pointwise [k0_pay3, k0_pay2]; rfl
/-- The kernel's moved coordinate 1 of a box is `box` at 1. -/
theorem box1_at (b : Fin 4) (j : Fin 5120) : k0_pay4 v25 v59 (ix2 b j) = box v25 v55 v59 v63 v67 b j 1 := by
  pointwise [k0_pay4, k0_pay2]; rfl
/-- The kernel's moved coordinate 2 of a box is `box` at 2. -/
theorem box2_at (b : Fin 4) (j : Fin 5120) : k0_pay5 v25 v63 (ix2 b j) = box v25 v55 v59 v63 v67 b j 2 := by
  pointwise [k0_pay5, k0_pay2]; rfl
/-- The kernel's moved coordinate 3 of a box is `box` at 3. -/
theorem box3_at (b : Fin 4) (j : Fin 5120) : k0_pay6 v25 v67 (ix2 b j) = box v25 v55 v59 v63 v67 b j 3 := by
  pointwise [k0_pay6, k0_pay2]; rfl
/-- Their areas. -/
theorem area_at (b : Fin 4) (j : Fin 5120) : k0_pay7 v25 v55 v59 v63 v67 (ix2 b j) = area (box v25 v55 v59 v63 v67 b j) := by
  pointwise [k0_pay7]
  rw [box0_at v25 v55 v59 v63 v67, box1_at v25 v55 v59 v63 v67, box2_at v25 v55 v59 v63 v67, box3_at v25 v55 v59 v63 v67]; rfl

/-- The shared area with the best box. -/
theorem share_at (s : FVec Ideal S4x5120 .f32) (b : Fin 4) (p j : Fin 5120) (hp : Top (fun k => s (ix2 b k)) p) :
    k0_pay15 (k0_pay3 v25 v55) (k0_pay4 v25 v59) (k0_pay5 v25 v63) (k0_pay6 v25 v67) lanes 5121#32 s (ix2 b j)
      = share (box v25 v55 v59 v63 v67 b p) (box v25 v55 v59 v63 v67 b j) := by
  pointwise [k0_pay15, k0_pay13]
  simp only [mask_at s b p _ hp, sum_mask]
  rw [box0_at v25 v55 v59 v63 v67, box1_at v25 v55 v59 v63 v67, box2_at v25 v55 v59 v63 v67, box3_at v25 v55 v59 v63 v67]
  rw [box0_at v25 v55 v59 v63 v67, box1_at v25 v55 v59 v63 v67, box2_at v25 v55 v59 v63 v67, box3_at v25 v55 v59 v63 v67]; rfl

/-- The joint area with the best box. -/
theorem joint_at (s : FVec Ideal S4x5120 .f32) (b : Fin 4) (p j : Fin 5120) (hp : Top (fun k => s (ix2 b k)) p) :
    k0_pay16 (k0_pay3 v25 v55) (k0_pay4 v25 v59) (k0_pay5 v25 v63) (k0_pay6 v25 v67) (k0_pay7 v25 v55 v59 v63 v67) lanes 5121#32 s (ix2 b j)
      = area (box v25 v55 v59 v63 v67 b p) + area (box v25 v55 v59 v63 v67 b j) - share (box v25 v55 v59 v63 v67 b p) (box v25 v55 v59 v63 v67 b j) := by
  pointwise [k0_pay16, k0_pay13]
  simp only [mask_at s b p _ hp, sum_mask]
  rw [share_at v25 v55 v59 v63 v67 s b p j hp, area_at, area_at]

/-- One trip on the scores. -/
theorem step_scores (k : Fin k0_t1_loop.trips) (s : FVec Ideal S4x5120 .f32) (a : FVec Ideal S4x6x128 .f32) (b : Fin 4) (p j : Fin 5120)
    (hp : Top (fun k => s (ix2 b k)) p) :
    (step v25 v27 v55 v59 v63 v67 k (s, a)).1 (ix2 b j) = next (box v25 v55 v59 v63 v67 b) p (fun j => s (ix2 b j)) j := by
  unfold step
  pointwise [k0_pay9, k0_pay17]
  rw [share_at v25 v55 v59 v63 v67 s b p j hp, joint_at v25 v55 v59 v63 v67 s b p j hp, valid_at s b p hp, mask_at s b p j hp, select_and_or]
  unfold next over
  congr

/-- One trip on the detections. -/
theorem step_dets (k : Fin k0_t1_loop.trips) (s : FVec Ideal S4x5120 .f32) (a : FVec Ideal S4x6x128 .f32) (b : Fin 4) (p : Fin 5120) (c : Fin 6) (l : Fin 128)
    (hp : Top (fun k => s (ix2 b k)) p) :
    (step v25 v27 v55 v59 v63 v67 k (s, a)).2 (ix3 b c l)
      = a (ix3 b c l) + if l.val = k.val then (if 0 < s (ix2 b p) then det v25 v27 v55 v59 v63 v67 b p c else 0) else 0 := by
  unfold step
  pointwise [k0_pay10, k0_pay13]
  simp only [mask_at s b p _ hp, sum_mask, valid_at s b p hp]
  have hk : k.val < 100 := k.isLt
  have hiv : Scf.iv 0#32 1#32 k.val = BitVec.ofNat 32 k.val := by simp [Scf.iv]
  rw [hiv, cmpi_eq_nat (by omega) (by omega), select_dec, select_dec]
  congr 3
  unfold det
  fin_cases c <;> rfl

end Cert.KernelIdeal.Body

end
-- ==== Proof.KerSetup.lean ====
/-
  What the kernel holds before its loop, read at an index on the extended reals.
-/
module

public import proofs.«01_k».proof.Proof.RunKernelIdeal
public import proofs.«01_k».proof.Proof.Nms
public import Idealize.ShloMosaic.Lib.StableHlo.RunRead
public import Idealize.ShloMosaic.Lib.StableHlo.ReadAt
public import Idealize.ShloMosaic.Lib.IdealHost
public import Idealize.ShloMosaic.Lib.Pipeline.ValueKit
public import Idealize.ShloMosaic.Lib.Pointwise

@[expose] public section

set_option maxRecDepth 16384

noncomputable section

namespace Cert.KernelIdeal.Body

open Cert.KernelIdeal Cert.KernelIdeal.Gen Cert.Nms
open Idealize.ShloMosaic Idealize.ShloMosaic.TcCoe Idealize.ShloMosaic.Tactic

variable (x0 : Vec Ideal S4x4x5120 .f32) (x1 : Vec Ideal S4x6x5120 .f32)

/-- The class ids and the raw scores. -/
theorem cls_at (b : Fin 4) (j : Fin 5120) : cls x1 (ix2 b j) = x1 (ix3 b 4 j) := by
  pointwise [cls, k0_pay26]
/-- The raw score of box `j` is column 5. -/
theorem raw_at (b : Fin 4) (j : Fin 5120) : raw x1 (ix2 b j) = x1 (ix3 b 5 j) := by
  pointwise [raw, k0_pay27]

/-- The refined, clipped coordinate 0. -/
theorem ry1_at (b : Fin 4) (j : Fin 5120) : ry1 x0 x1 (ix2 b j) = coord (fun c => x0 (ix3 b c j)) (fun c => x1 (ix3 b c j)) 0 := by
  pointwise [ry1, k0_pay34, k0_pay32, k0_pay28, k0_pay30, k0_pay18, k0_pay20, k0_pay22, k0_pay24]
  rfl
/-- The refined, clipped coordinate 1. -/
theorem rx1_at (b : Fin 4) (j : Fin 5120) : rx1 x0 x1 (ix2 b j) = coord (fun c => x0 (ix3 b c j)) (fun c => x1 (ix3 b c j)) 1 := by
  pointwise [rx1, k0_pay35, k0_pay33, k0_pay29, k0_pay31, k0_pay19, k0_pay21, k0_pay23, k0_pay25]
  rfl
/-- The refined, clipped coordinate 2. -/
theorem ry2_at (b : Fin 4) (j : Fin 5120) : ry2 x0 x1 (ix2 b j) = coord (fun c => x0 (ix3 b c j)) (fun c => x1 (ix3 b c j)) 2 := by
  pointwise [ry2, k0_pay36, k0_pay32, k0_pay28, k0_pay30, k0_pay18, k0_pay20, k0_pay22, k0_pay24]
  rfl
/-- The refined, clipped coordinate 3. -/
theorem rx2_at (b : Fin 4) (j : Fin 5120) : rx2 x0 x1 (ix2 b j) = coord (fun c => x0 (ix3 b c j)) (fun c => x1 (ix3 b c j)) 3 := by
  pointwise [rx2, k0_pay37, k0_pay33, k0_pay29, k0_pay31, k0_pay19, k0_pay21, k0_pay23, k0_pay25]
  rfl

/-- The starting scores. -/
theorem scores0_at (b : Fin 4) (j : Fin 5120) : scores0 x1 (ix2 b j) = score fun c => x1 (ix3 b c j) := by
  pointwise [scores0, k0_pay1, k0_pay38, k0_pay39, raw, cls, k0_pay27, k0_pay26]
  exact select_score fun c => x1 (ix3 b c j)

/-- The detections start at zero. -/
theorem dets0_at (b : Fin 4) (c : Fin 6) (l : Fin 128) : k0_pay8 (F := Ideal) (ix3 b c l) = 0 := by
  pointwise [k0_pay8]

/-! ## The staged inputs -/

variable (m : (ℓ : Loc nD τ sig) → Buf (Elt Ideal) ℓ)

/-- Every window sits at the origin of its array. -/
theorem idx : ∀ t : Fin cfg0.N, win0_0.index t = ![0, 0, 0] ∧ win0_1.index t = ![0, 0, 0] ∧ win0_2.index t = ![0, 0, 0] :=
  (by decide +kernel : ∀ t : Fin grid0.N, _)

/-- The two operands the region finds. -/
theorem entry_boxes (c : Dev nD) : V m c main_v2 = pad S4x4x5120 ![0, 0, 0] ![0, 0, 120] ![0, 0, 0]
    (transpose S4x4x5000 [0, 2, 1] (m ((c : Thread nD τ).loc main_arg0)) transposes_S4x5000x4_S4x4x5000_0_2_1)
    (sitofp (F := Ideal) .f32 (constantI S_ 32 0#32)) pads_S4x4x5000_S4x4x5120_000_000_01200 h_S_ := by
  show StableHlo.after (hostOps0 ++ (hostOps0_1 ++ (hostOps0_2 ++ (hostOps0_3 ++ [])))) (fun b => m (c, b)) _ = _
  simp only [List.cons_append, List.nil_append]
  after_reads_simp <;> rfl
/-- The class columns the region finds: turned, and padded with zeros. -/
theorem entry_columns (c : Dev nD) : V m c main_v3 = pad S4x6x5120 ![0, 0, 0] ![0, 0, 120] ![0, 0, 0]
    (transpose S4x6x5000 [0, 2, 1] (m ((c : Thread nD τ).loc main_arg1)) transposes_S4x5000x6_S4x6x5000_0_2_1)
    (sitofp (F := Ideal) .f32 (constantI S_ 32 0#32)) pads_S4x6x5000_S4x6x5120_000_000_01200 h_S_ := by
  show StableHlo.after (hostOps0 ++ (hostOps0_1 ++ (hostOps0_2 ++ (hostOps0_3 ++ [])))) (fun b => m (c, b)) _ = _
  simp only [List.cons_append, List.nil_append]
  after_reads_simp <;> rfl

/-- They are staged whole. -/
theorem staged_boxes (c : Dev nD) (t : Fin cfg0.N) : iblk m c 0 t = V m c main_v2 := by blk_ext! [iblk, idx t]
/-- The class columns are staged whole. -/
theorem staged_columns (c : Dev nD) (t : Fin cfg0.N) : iblk m c 1 t = V m c main_v3 := by blk_ext! [iblk, idx t]

/-- Lane `j` of the staged operands is box `j`, -/
theorem boxes_at (c : Dev nD) (t : Fin cfg0.N) (b : Fin 4) (e : Fin 4) (j : Fin 5000) :
    iblk m c 0 t (ix3 b e (wide j)) = m ((c : Thread nD τ).loc main_arg0) (ix3 b j e) := by
  rw [staged_boxes, entry_boxes]
  pointwise
  rw [dif_pos (show (wide j).val < 5000 from j.isLt)]
  rfl
/-- Lane `j` of the staged columns is box `j`. -/
theorem columns_at (c : Dev nD) (t : Fin cfg0.N) (b : Fin 4) (e : Fin 6) (j : Fin 5000) :
    iblk m c 1 t (ix3 b e (wide j)) = m ((c : Thread nD τ).loc main_arg1) (ix3 b j e) := by
  rw [staged_columns, entry_columns]
  pointwise
  rw [dif_pos (show (wide j).val < 5000 from j.isLt)]
  rfl
/-- and the lanes after the boxes hold zeros. -/
theorem columns_tail (c : Dev nD) (t : Fin cfg0.N) (b : Fin 4) (e : Fin 6) (j : Fin 5120) (hj : 5000 ≤ j.val) :
    iblk m c 1 t (ix3 b e j) = (0 : EReal) := by
  rw [staged_columns, entry_columns]
  pointwise
  rw [dif_neg (by omega)]
  show (((0#32 : BitVec 32).toInt : ℝ) : EReal) = 0
  simp

/-! ## The result -/

/-- The region leaves the detections of the last trip. -/
theorem left (c : Dev nD) (t : Fin cfg0.N) : (dats m 0 c).arrAt 2 (cfgs 0).N = (carried (iblk m c 0 t) (iblk m c 1 t)).2 := by
  have hN : ∀ t : Fin cfg0.N, t = t0_0 := by decide +kernel
  rw [hN t]
  refine (dats m 0 c).arrAt_eq_of_after_last 2 t0_0 (by decide +kernel) _ fun j => ?_
  blk_simp
  rw [after0_2]
  unfold out0_2
  canon_tiles
  exact congrArg _ (funext fun a => Fin.ext (match a with | 0 => h0.symm | 1 => h1.symm | 2 => h2.symm))

/-- The lines after it cut and turn them. -/
theorem result_at (c : Dev nD) (t : Fin cfg0.N) (b : Fin 4) (l : Fin 100) (e : Fin 6) :
    Pipeline.afterTail₀ cfgs (dats m) 0 (V0 m) [hostOps1] c main_v6 (ix3 b l e)
      = (carried (iblk m c 0 t) (iblk m c 1 t)).2 (ix3 b e ⟨l.val, by omega⟩) := by
  have h : Pipeline.afterTail₀ cfgs (dats m) 0 (V0 m) [hostOps1] c main_v6
      = transpose S4x100x6 [0, 2, 1] (extractStridedSlice S4x6x100 ![0, 0, 0] ((dats m 0 c).arrAt 2 (cfgs 0).N) slices_S4x6x128_S4x6x100_0_0_0) transposes_S4x6x100_S4x100x6_0_2_1 := by
    unfold Pipeline.afterTail₀
    rw [← Pipeline.withArrays_arr (cfgs 0).spec (by decide) c (V0 m c) (fun w => (dats m 0 c).arrAt w (cfgs 0).N) 2]
    show StableHlo.after (hostOps1 ++ []) _ _ = _
    simp only [List.cons_append, List.nil_append]
    after_reads_simp <;> rfl
  rw [h, left m c t]
  pointwise

end Cert.KernelIdeal.Body
-- ==== Proof.RefValue.lean ====
/-
  The reference's values as functions: what its operations before the loop, of one trip and after the loop leave in the buffers that matter.
-/
module

public import proofs.«01_k».proof.Proof.RunReferenceIdeal

@[expose] public section

set_option maxRecDepth 65536

noncomputable section

namespace Cert.ReferenceIdeal.Body

open Cert.ReferenceIdeal Cert.ReferenceIdeal.Gen
open Idealize.ShloMosaic Idealize.ShloMosaic.TcCoe Idealize.ShloMosaic.Tactic
open Idealize.SL.Sem
open Idealize.ShloMosaic.StableHlo (after afterL)

variable {F : FTy → Type} [FloatOps F]

/-- The refined boxes of every row. -/
def pRefined (arg0 : FVec F S4x5000x4 .f32) (arg1 : FVec F S4x5000x6 .f32) : FVec F S4x5000x4 .f32 :=
  have v20 : FVec F S4x5000x1 .f32 := ((extractStridedSlice S4x5000x1 ![0, 0, 0] · slices_S4x5000x4_S4x5000x1_0_0_0)) arg0
  have v21 : FVec F S4x5000 .f32 := shapeCast S4x5000 v20 shapeCasts_S4x5000x1_S4x5000
  have cst_1 : FVec F S_ .f32 := (constant S_ .f32 0x3F000000#32)
  have v22 : FVec F S4x5000 .f32 := (broadcastInDim S4x5000 ![] bcast_S_S4x5000) cst_1
  have v10 : FVec F S4x5000x1 .f32 := ((extractStridedSlice S4x5000x1 ![0, 0, 2] · slices_S4x5000x4_S4x5000x1_0_0_2)) arg0
  have v11 : FVec F S4x5000 .f32 := shapeCast S4x5000 v10 shapeCasts_S4x5000x1_S4x5000
  have v12 : FVec F S4x5000x1 .f32 := ((extractStridedSlice S4x5000x1 ![0, 0, 0] · slices_S4x5000x4_S4x5000x1_0_0_0)) arg0
  have v13 : FVec F S4x5000 .f32 := shapeCast S4x5000 v12 shapeCasts_S4x5000x1_S4x5000
  have v14 : FVec F S4x5000 .f32 := (subf) v11 v13
  have v23 : FVec F S4x5000 .f32 := (mulf) v22 v14
  have v24 : FVec F S4x5000 .f32 := (addf) v21 v23
  have v3 : FVec F S4x5000x4 .f32 := ((extractStridedSlice S4x5000x4 ![0, 0, 0] · slices_S4x5000x6_S4x5000x4_0_0_0)) arg1
  have cst : FVec F S4 .f32 := (fun i => FloatOps.ofBits .f32 (lit0 (S4.rowMajor i)))
  have v6 : FVec F S1x4 .f32 := (broadcastInDim S1x4 ![1] bcast_S4_S1x4_1) cst
  have v7 : FVec F S1x1x4 .f32 := (broadcastInDim S1x1x4 ![1, 2] bcast_S1x4_S1x1x4_1_2) v6
  have v8 : FVec F S4x5000x4 .f32 := (broadcastInDim S4x5000x4 ![0, 1, 2] bcast_S1x1x4_S4x5000x4_0_1_2) v7
  have v9 : FVec F S4x5000x4 .f32 := (mulf) v3 v8
  have v30 : FVec F S4x5000x1 .f32 := ((extractStridedSlice S4x5000x1 ![0, 0, 0] · slices_S4x5000x4_S4x5000x1_0_0_0)) v9
  have v31 : FVec F S4x5000 .f32 := shapeCast S4x5000 v30 shapeCasts_S4x5000x1_S4x5000
  have v32 : FVec F S4x5000 .f32 := (mulf) v31 v14
  have v33 : FVec F S4x5000 .f32 := (addf) v24 v32
  have cst_3 : FVec F S_ .f32 := (constant S_ .f32 0x3F000000#32)
  have v46 : FVec F S4x5000 .f32 := (broadcastInDim S4x5000 ![] bcast_S_S4x5000) cst_3
  have v38 : FVec F S4x5000x1 .f32 := ((extractStridedSlice S4x5000x1 ![0, 0, 2] · slices_S4x5000x4_S4x5000x1_0_0_2)) v9
  have v39 : FVec F S4x5000 .f32 := shapeCast S4x5000 v38 shapeCasts_S4x5000x1_S4x5000
  have v40 : FVec F S4x5000 .f32 := (Host.exp) v39
  have v41 : FVec F S4x5000 .f32 := (mulf) v14 v40
  have v47 : FVec F S4x5000 .f32 := (mulf) v46 v41
  have v48 : FVec F S4x5000 .f32 := (subf) v33 v47
  have v54 : FVec F S4x5000x1 .f32 := (broadcastInDim S4x5000x1 ![0, 1] bcast_S4x5000_S4x5000x1_0_1) v48
  have v25 : FVec F S4x5000x1 .f32 := ((extractStridedSlice S4x5000x1 ![0, 0, 1] · slices_S4x5000x4_S4x5000x1_0_0_1)) arg0
  have v26 : FVec F S4x5000 .f32 := shapeCast S4x5000 v25 shapeCasts_S4x5000x1_S4x5000
  have cst_2 : FVec F S_ .f32 := (constant S_ .f32 0x3F000000#32)
  have v27 : FVec F S4x5000 .f32 := (broadcastInDim S4x5000 ![] bcast_S_S4x5000) cst_2
  have v15 : FVec F S4x5000x1 .f32 := ((extractStridedSlice S4x5000x1 ![0, 0, 3] · slices_S4x5000x4_S4x5000x1_0_0_3)) arg0
  have v16 : FVec F S4x5000 .f32 := shapeCast S4x5000 v15 shapeCasts_S4x5000x1_S4x5000
  have v17 : FVec F S4x5000x1 .f32 := ((extractStridedSlice S4x5000x1 ![0, 0, 1] · slices_S4x5000x4_S4x5000x1_0_0_1)) arg0
  have v18 : FVec F S4x5000 .f32 := shapeCast S4x5000 v17 shapeCasts_S4x5000x1_S4x5000
  have v19 : FVec F S4x5000 .f32 := (subf) v16 v18
  have v28 : FVec F S4x5000 .f32 := (mulf) v27 v19
  have v29 : FVec F S4x5000 .f32 := (addf) v26 v28
  have v34 : FVec F S4x5000x1 .f32 := ((extractStridedSlice S4x5000x1 ![0, 0, 1] · slices_S4x5000x4_S4x5000x1_0_0_1)) v9
  have v35 : FVec F S4x5000 .f32 := shapeCast S4x5000 v34 shapeCasts_S4x5000x1_S4x5000
  have v36 : FVec F S4x5000 .f32 := (mulf) v35 v19
  have v37 : FVec F S4x5000 .f32 := (addf) v29 v36
  have cst_4 : FVec F S_ .f32 := (constant S_ .f32 0x3F000000#32)
  have v49 : FVec F S4x5000 .f32 := (broadcastInDim S4x5000 ![] bcast_S_S4x5000) cst_4
  have v42 : FVec F S4x5000x1 .f32 := ((extractStridedSlice S4x5000x1 ![0, 0, 3] · slices_S4x5000x4_S4x5000x1_0_0_3)) v9
  have v43 : FVec F S4x5000 .f32 := shapeCast S4x5000 v42 shapeCasts_S4x5000x1_S4x5000
  have v44 : FVec F S4x5000 .f32 := (Host.exp) v43
  have v45 : FVec F S4x5000 .f32 := (mulf) v19 v44
  have v50 : FVec F S4x5000 .f32 := (mulf) v49 v45
  have v51 : FVec F S4x5000 .f32 := (subf) v37 v50
  have v55 : FVec F S4x5000x1 .f32 := (broadcastInDim S4x5000x1 ![0, 1] bcast_S4x5000_S4x5000x1_0_1) v51
  have v52 : FVec F S4x5000 .f32 := (addf) v48 v41
  have v56 : FVec F S4x5000x1 .f32 := (broadcastInDim S4x5000x1 ![0, 1] bcast_S4x5000_S4x5000x1_0_1) v52
  have v53 : FVec F S4x5000 .f32 := (addf) v51 v45
  have v57 : FVec F S4x5000x1 .f32 := (broadcastInDim S4x5000x1 ![0, 1] bcast_S4x5000_S4x5000x1_0_1) v53
  have v58 : FVec F S4x5000x4 .f32 := (concatenate S4x5000x4 2 [⟨S4x5000x1, v54⟩, ⟨S4x5000x1, v55⟩, ⟨S4x5000x1, v56⟩, ⟨S4x5000x1, v57⟩] concatenates_S4x5000x1_S4x5000x1_S4x5000x1_S4x5000x1_S4x5000x4_d2)
  v58

/-- The refined boxes, clipped. -/
def pBoxes (v58 : FVec F S4x5000x4 .f32) : FVec F S4x5000x4 .f32 :=
  have cst_0 : FVec F S4 .f32 := (fun i => FloatOps.ofBits .f32 (lit1 (S4.rowMajor i)))
  have v63 : FVec F S1 .f32 := ((extractStridedSlice S1 ![2] · slices_S4_S1_2)) cst_0
  have v64 : FVec F S_ .f32 := shapeCast S_ v63 shapeCasts_S1_S_
  have call0_v2 : FVec F S4x5000 .f32 := (broadcastInDim S4x5000 ![] bcast_S_S4x5000) v64
  have v59 : FVec F S1 .f32 := ((extractStridedSlice S1 ![0] · slices_S4_S1_0)) cst_0
  have v60 : FVec F S_ .f32 := shapeCast S_ v59 shapeCasts_S1_S_
  have call0_v0 : FVec F S4x5000 .f32 := (broadcastInDim S4x5000 ![] bcast_S_S4x5000) v60
  have v67 : FVec F S4x5000x1 .f32 := ((extractStridedSlice S4x5000x1 ![0, 0, 0] · slices_S4x5000x4_S4x5000x1_0_0_0)) v58
  have v68 : FVec F S4x5000 .f32 := shapeCast S4x5000 v67 shapeCasts_S4x5000x1_S4x5000
  have call0_v1 : FVec F S4x5000 .f32 := maximumf call0_v0 v68
  have v69 : FVec F S4x5000 .f32 := minimumf call0_v2 call0_v1
  have v79 : FVec F S4x5000x1 .f32 := (broadcastInDim S4x5000x1 ![0, 1] bcast_S4x5000_S4x5000x1_0_1) v69
  have v65 : FVec F S1 .f32 := ((extractStridedSlice S1 ![3] · slices_S4_S1_3)) cst_0
  have v66 : FVec F S_ .f32 := shapeCast S_ v65 shapeCasts_S1_S_
  have call1_v2 : FVec F S4x5000 .f32 := (broadcastInDim S4x5000 ![] bcast_S_S4x5000) v66
  have v61 : FVec F S1 .f32 := ((extractStridedSlice S1 ![1] · slices_S4_S1_1)) cst_0
  have v62 : FVec F S_ .f32 := shapeCast S_ v61 shapeCasts_S1_S_
  have call1_v0 : FVec F S4x5000 .f32 := (broadcastInDim S4x5000 ![] bcast_S_S4x5000) v62
  have v70 : FVec F S4x5000x1 .f32 := ((extractStridedSlice S4x5000x1 ![0, 0, 1] · slices_S4x5000x4_S4x5000x1_0_0_1)) v58
  have v71 : FVec F S4x5000 .f32 := shapeCast S4x5000 v70 shapeCasts_S4x5000x1_S4x5000
  have call1_v1 : FVec F S4x5000 .f32 := maximumf call1_v0 v71
  have v72 : FVec F S4x5000 .f32 := minimumf call1_v2 call1_v1
  have v80 : FVec F S4x5000x1 .f32 := (broadcastInDim S4x5000x1 ![0, 1] bcast_S4x5000_S4x5000x1_0_1) v72
  have call2_v2 : FVec F S4x5000 .f32 := (broadcastInDim S4x5000 ![] bcast_S_S4x5000) v64
  have call2_v0 : FVec F S4x5000 .f32 := (broadcastInDim S4x5000 ![] bcast_S_S4x5000) v60
  have v73 : FVec F S4x5000x1 .f32 := ((extractStridedSlice S4x5000x1 ![0, 0, 2] · slices_S4x5000x4_S4x5000x1_0_0_2)) v58
  have v74 : FVec F S4x5000 .f32 := shapeCast S4x5000 v73 shapeCasts_S4x5000x1_S4x5000
  have call2_v1 : FVec F S4x5000 .f32 := maximumf call2_v0 v74
  have v75 : FVec F S4x5000 .f32 := minimumf call2_v2 call2_v1
  have v81 : FVec F S4x5000x1 .f32 := (broadcastInDim S4x5000x1 ![0, 1] bcast_S4x5000_S4x5000x1_0_1) v75
  have call3_v2 : FVec F S4x5000 .f32 := (broadcastInDim S4x5000 ![] bcast_S_S4x5000) v66
  have call3_v0 : FVec F S4x5000 .f32 := (broadcastInDim S4x5000 ![] bcast_S_S4x5000) v62
  have v76 : FVec F S4x5000x1 .f32 := ((extractStridedSlice S4x5000x1 ![0, 0, 3] · slices_S4x5000x4_S4x5000x1_0_0_3)) v58
  have v77 : FVec F S4x5000 .f32 := shapeCast S4x5000 v76 shapeCasts_S4x5000x1_S4x5000
  have call3_v1 : FVec F S4x5000 .f32 := maximumf call3_v0 v77
  have v78 : FVec F S4x5000 .f32 := minimumf call3_v2 call3_v1
  have v82 : FVec F S4x5000x1 .f32 := (broadcastInDim S4x5000x1 ![0, 1] bcast_S4x5000_S4x5000x1_0_1) v78
  have v83 : FVec F S4x5000x4 .f32 := (concatenate S4x5000x4 2 [⟨S4x5000x1, v79⟩, ⟨S4x5000x1, v80⟩, ⟨S4x5000x1, v81⟩, ⟨S4x5000x1, v82⟩] concatenates_S4x5000x1_S4x5000x1_S4x5000x1_S4x5000x1_S4x5000x4_d2)
  v83

/-- The class ids, cast to whole numbers. -/
def pIds (arg1 : FVec F S4x5000x6 .f32) : IVec S4x5000 32 :=
  have v0 : FVec F S4x5000x1 .f32 := ((extractStridedSlice S4x5000x1 ![0, 0, 4] · slices_S4x5000x6_S4x5000x1_0_0_4)) arg1
  have v1 : FVec F S4x5000 .f32 := shapeCast S4x5000 v0 shapeCasts_S4x5000x1_S4x5000
  have v2 : IVec S4x5000 32 := (fptosi 32) v1
  v2

/-- The raw scores. -/
def pRaw (arg1 : FVec F S4x5000x6 .f32) : FVec F S4x5000 .f32 :=
  have v4 : FVec F S4x5000x1 .f32 := ((extractStridedSlice S4x5000x1 ![0, 0, 5] · slices_S4x5000x6_S4x5000x1_0_0_5)) arg1
  have v5 : FVec F S4x5000 .f32 := shapeCast S4x5000 v4 shapeCasts_S4x5000x1_S4x5000
  v5

/-- The scores the loop starts from: -1 where the filter drops the box. -/
def pScores (v2 : IVec S4x5000 32) (v5 : FVec F S4x5000 .f32) : FVec F S4x5000 .f32 :=
  have c : IVec S_ 32 := (constantI S_ 32 0#32)
  have v84 : IVec S4x5000 32 := (broadcastInDim S4x5000 ![] bcast_S_S4x5000) c
  have v85 : IVec S4x5000 1 := (cmpi .sgt) v2 v84
  have cst_5 : FVec F S_ .f32 := (constant S_ .f32 0x3F333333#32)
  have v86 : FVec F S4x5000 .f32 := (broadcastInDim S4x5000 ![] bcast_S_S4x5000) cst_5
  have v87 : IVec S4x5000 1 := (cmpf .oge) v5 v86
  have v88 : IVec S4x5000 1 := (andi) v85 v87
  have cst_6 : FVec F S_ .f32 := (constant S_ .f32 0xBF800000#32)
  have call4_v0 : FVec F S_ .f32 := id cst_6
  have call4_v1 : FVec F S5000 .f32 := (broadcastInDim S5000 ![] bcast_S_S5000) call4_v0
  have call4_v2 : FVec F S4x5000 .f32 := (broadcastInDim S4x5000 ![1] bcast_S5000_S4x5000_1) call4_v1
  have v89 : FVec F S4x5000 .f32 := select v88 v5 call4_v2
  v89

/-- The boxes moved apart by class. -/
def pOff (v83 : FVec F S4x5000x4 .f32) (v2 : IVec S4x5000 32) : FVec F S4x5000x4 .f32 :=
  have v90 : FVec F S4x5000 .f32 := (sitofp .f32) v2
  have v91 : FVec F S4x5000x1 .f32 := (broadcastInDim S4x5000x1 ![0, 1] bcast_S4x5000_S4x5000x1_0_1) v90
  have cst_7 : FVec F S_ .f32 := (constant S_ .f32 0x40800000#32)
  have v92 : FVec F S4x5000x1 .f32 := (broadcastInDim S4x5000x1 ![] bcast_S_S4x5000x1) cst_7
  have v93 : FVec F S4x5000x1 .f32 := (mulf) v91 v92
  have v94 : FVec F S4x5000x4 .f32 := (broadcastInDim S4x5000x4 ![0, 1, 2] bcast_S4x5000x1_S4x5000x4_0_1_2) v93
  have v95 : FVec F S4x5000x4 .f32 := (addf) v83 v94
  v95

/-- Their areas. -/
def pArea (v95 : FVec F S4x5000x4 .f32) : FVec F S4x5000 .f32 :=
  have v96 : FVec F S4x5000x1 .f32 := ((extractStridedSlice S4x5000x1 ![0, 0, 2] · slices_S4x5000x4_S4x5000x1_0_0_2)) v95
  have v97 : FVec F S4x5000 .f32 := shapeCast S4x5000 v96 shapeCasts_S4x5000x1_S4x5000
  have v98 : FVec F S4x5000x1 .f32 := ((extractStridedSlice S4x5000x1 ![0, 0, 0] · slices_S4x5000x4_S4x5000x1_0_0_0)) v95
  have v99 : FVec F S4x5000 .f32 := shapeCast S4x5000 v98 shapeCasts_S4x5000x1_S4x5000
  have v100 : FVec F S4x5000 .f32 := (subf) v97 v99
  have v101 : FVec F S4x5000x1 .f32 := ((extractStridedSlice S4x5000x1 ![0, 0, 3] · slices_S4x5000x4_S4x5000x1_0_0_3)) v95
  have v102 : FVec F S4x5000 .f32 := shapeCast S4x5000 v101 shapeCasts_S4x5000x1_S4x5000
  have v103 : FVec F S4x5000x1 .f32 := ((extractStridedSlice S4x5000x1 ![0, 0, 1] · slices_S4x5000x4_S4x5000x1_0_0_1)) v95
  have v104 : FVec F S4x5000 .f32 := shapeCast S4x5000 v103 shapeCasts_S4x5000x1_S4x5000
  have v105 : FVec F S4x5000 .f32 := (subf) v102 v104
  have v106 : FVec F S4x5000 .f32 := (mulf) v100 v105
  v106

/-- No box chosen yet. -/
def pZeroI  : IVec S100x4 32 :=
  have c_8 : IVec S_ 32 := (constantI S_ 32 0#32)
  have v107 : IVec S100x4 32 := (broadcastInDim S100x4 ![] bcast_S_S100x4) c_8
  v107

/-- No choice valid yet. -/
def pZeroB  : IVec S100x4 1 :=
  have c_9 : IVec S_ 1 := (constantI S_ 1 0#1)
  have v108 : IVec S100x4 1 := (broadcastInDim S100x4 ![] bcast_S_S100x4) c_9
  v108

/-- The number of the first box of greatest score, in every row. -/
def tIdx (v109_3 : FVec F S4x5000 .f32) : IVec S4 32 :=
  have b_call5_v0 : IVec S4x5000 32 := (iotaInDim S4x5000 32 1)
  have b_call5_cst : FVec F S_ .f32 := (constant S_ .f32 0xFF800000#32)
  have b_call5_c : IVec S_ 32 := (constantI S_ 32 0#32)
  have b_v141 : IVec S4 32 := (fun x y u v j => (Host.argReduce reducer_argmax_f32_i32 x y u v reducesTo_S4x5000_S4_d1 h_S_ j).2) v109_3 b_call5_v0 b_call5_cst b_call5_c
  b_v141

/-- Whether its score is above zero. -/
def tValid (v109_3 : FVec F S4x5000 .f32) (b_v141 : IVec S4 32) : IVec S4 1 :=
  have b_call6_v0 : IVec S4x1 32 := (broadcastInDim S4x1 ![0] bcast_S4_S4x1_0) b_v141
  have b_v142 : FVec F S4 .f32 := (fun x i => Host.gather gather_S4x5000_S4x1_S4_n_1_0_0_1_1_11 x i) v109_3 b_call6_v0
  have b_cst_23 : FVec F S_ .f32 := (constant S_ .f32 0x00000000#32)
  have b_v143 : FVec F S4 .f32 := (broadcastInDim S4 ![] bcast_S_S4) b_cst_23
  have b_v144 : IVec S4 1 := (cmpf .ogt) b_v142 b_v143
  b_v144

/-- How much every box shares with the chosen one. -/
def tInter (v109_0 : FVec F S4x5000x4 .f32) (b_v141 : IVec S4 32) : FVec F S4x5000 .f32 :=
  have b_call7_v0 : IVec S4x1 32 := (broadcastInDim S4x1 ![0] bcast_S4_S4x1_0) b_v141
  have b_v145 : FVec F S4x4 .f32 := (fun x i => Host.gather gather_S4x5000x4_S4x1_S4x4_1_1_0_0_1_1_114 x i) v109_0 b_call7_v0
  have b_v160 : FVec F S4x1 .f32 := ((extractStridedSlice S4x1 ![0, 2] · slices_S4x4_S4x1_0_2)) b_v145
  have b_v161 : FVec F S4 .f32 := shapeCast S4 b_v160 shapeCasts_S4x1_S4
  have b_v164 : FVec F S4x1 .f32 := (broadcastInDim S4x1 ![0] bcast_S4_S4x1_0) b_v161
  have b_v165 : FVec F S4x5000 .f32 := (broadcastInDim S4x5000 ![0, 1] bcast_S4x1_S4x5000_0_1) b_v164
  have b_v162 : FVec F S4x5000x1 .f32 := ((extractStridedSlice S4x5000x1 ![0, 0, 2] · slices_S4x5000x4_S4x5000x1_0_0_2)) v109_0
  have b_v163 : FVec F S4x5000 .f32 := shapeCast S4x5000 b_v162 shapeCasts_S4x5000x1_S4x5000
  have b_v166 : FVec F S4x5000 .f32 := (minimumf) b_v165 b_v163
  have b_v146 : FVec F S4x1 .f32 := ((extractStridedSlice S4x1 ![0, 0] · slices_S4x4_S4x1_0_0)) b_v145
  have b_v147 : FVec F S4 .f32 := shapeCast S4 b_v146 shapeCasts_S4x1_S4
  have b_v150 : FVec F S4x1 .f32 := (broadcastInDim S4x1 ![0] bcast_S4_S4x1_0) b_v147
  have b_v151 : FVec F S4x5000 .f32 := (broadcastInDim S4x5000 ![0, 1] bcast_S4x1_S4x5000_0_1) b_v150
  have b_v148 : FVec F S4x5000x1 .f32 := ((extractStridedSlice S4x5000x1 ![0, 0, 0] · slices_S4x5000x4_S4x5000x1_0_0_0)) v109_0
  have b_v149 : FVec F S4x5000 .f32 := shapeCast S4x5000 b_v148 shapeCasts_S4x5000x1_S4x5000
  have b_v152 : FVec F S4x5000 .f32 := (maximumf) b_v151 b_v149
  have b_v174 : FVec F S4x5000 .f32 := (subf) b_v166 b_v152
  have b_cst_24 : FVec F S_ .f32 := (constant S_ .f32 0x00000000#32)
  have b_v175 : FVec F S4x5000 .f32 := (broadcastInDim S4x5000 ![] bcast_S_S4x5000) b_cst_24
  have b_v176 : FVec F S4x5000 .f32 := (maximumf) b_v174 b_v175
  have b_v167 : FVec F S4x1 .f32 := ((extractStridedSlice S4x1 ![0, 3] · slices_S4x4_S4x1_0_3)) b_v145
  have b_v168 : FVec F S4 .f32 := shapeCast S4 b_v167 shapeCasts_S4x1_S4
  have b_v171 : FVec F S4x1 .f32 := (broadcastInDim S4x1 ![0] bcast_S4_S4x1_0) b_v168
  have b_v172 : FVec F S4x5000 .f32 := (broadcastInDim S4x5000 ![0, 1] bcast_S4x1_S4x5000_0_1) b_v171
  have b_v169 : FVec F S4x5000x1 .f32 := ((extractStridedSlice S4x5000x1 ![0, 0, 3] · slices_S4x5000x4_S4x5000x1_0_0_3)) v109_0
  have b_v170 : FVec F S4x5000 .f32 := shapeCast S4x5000 b_v169 shapeCasts_S4x5000x1_S4x5000
  have b_v173 : FVec F S4x5000 .f32 := (minimumf) b_v172 b_v170
  have b_v153 : FVec F S4x1 .f32 := ((extractStridedSlice S4x1 ![0, 1] · slices_S4x4_S4x1_0_1)) b_v145
  have b_v154 : FVec F S4 .f32 := shapeCast S4 b_v153 shapeCasts_S4x1_S4
  have b_v157 : FVec F S4x1 .f32 := (broadcastInDim S4x1 ![0] bcast_S4_S4x1_0) b_v154
  have b_v158 : FVec F S4x5000 .f32 := (broadcastInDim S4x5000 ![0, 1] bcast_S4x1_S4x5000_0_1) b_v157
  have b_v155 : FVec F S4x5000x1 .f32 := ((extractStridedSlice S4x5000x1 ![0, 0, 1] · slices_S4x5000x4_S4x5000x1_0_0_1)) v109_0
  have b_v156 : FVec F S4x5000 .f32 := shapeCast S4x5000 b_v155 shapeCasts_S4x5000x1_S4x5000
  have b_v159 : FVec F S4x5000 .f32 := (maximumf) b_v158 b_v156
  have b_v177 : FVec F S4x5000 .f32 := (subf) b_v173 b_v159
  have b_cst_25 : FVec F S_ .f32 := (constant S_ .f32 0x00000000#32)
  have b_v178 : FVec F S4x5000 .f32 := (broadcastInDim S4x5000 ![] bcast_S_S4x5000) b_cst_25
  have b_v179 : FVec F S4x5000 .f32 := (maximumf) b_v177 b_v178
  have b_v180 : FVec F S4x5000 .f32 := (mulf) b_v176 b_v179
  b_v180

/-- The scores after one trip. -/
def tScores (v109_1 : FVec F S4x5000 .f32) (v109_3 : FVec F S4x5000 .f32) (b_v141 : IVec S4 32) (b_v144 : IVec S4 1) (b_v180 : FVec F S4x5000 .f32) : FVec F S4x5000 .f32 :=
  have b_v198 : IVec S4x1 1 := (broadcastInDim S4x1 ![0] bcast_S4_S4x1_0) b_v144
  have b_v199 : IVec S4x5000 1 := (broadcastInDim S4x5000 ![0, 1] bcast_S4x1_S4x5000_0_1) b_v198
  have b_call8_v0 : IVec S4x1 32 := (broadcastInDim S4x1 ![0] bcast_S4_S4x1_0) b_v141
  have b_v181 : FVec F S4 .f32 := (fun x i => Host.gather gather_S4x5000_S4x1_S4_n_1_0_0_1_1_11 x i) v109_1 b_call8_v0
  have b_v182 : FVec F S4x1 .f32 := (broadcastInDim S4x1 ![0] bcast_S4_S4x1_0) b_v181
  have b_v183 : FVec F S4x5000 .f32 := (broadcastInDim S4x5000 ![0, 1] bcast_S4x1_S4x5000_0_1) b_v182
  have b_v184 : FVec F S4x5000 .f32 := (addf) b_v183 v109_1
  have b_v185 : FVec F S4x5000 .f32 := (subf) b_v184 b_v180
  have b_cst_26 : FVec F S_ .f32 := (constant S_ .f32 0x322BCC77#32)
  have b_v186 : FVec F S4x5000 .f32 := (broadcastInDim S4x5000 ![] bcast_S_S4x5000) b_cst_26
  have b_v187 : FVec F S4x5000 .f32 := (addf) b_v185 b_v186
  have b_v188 : FVec F S4x5000 .f32 := (Host.divf) b_v180 b_v187
  have b_cst_27 : FVec F S_ .f32 := (constant S_ .f32 0x3E99999A#32)
  have b_v189 : FVec F S4x5000 .f32 := (broadcastInDim S4x5000 ![] bcast_S_S4x5000) b_cst_27
  have b_v190 : IVec S4x5000 1 := (cmpf .ogt) b_v188 b_v189
  have b_v191 : IVec S5000 32 := (iotaInDim S5000 32 0)
  have b_v192 : IVec S1x5000 32 := (broadcastInDim S1x5000 ![1] bcast_S5000_S1x5000_1) b_v191
  have b_v194 : IVec S4x5000 32 := (broadcastInDim S4x5000 ![0, 1] bcast_S1x5000_S4x5000_0_1) b_v192
  have b_v193 : IVec S4x1 32 := (broadcastInDim S4x1 ![0] bcast_S4_S4x1_0) b_v141
  have b_v195 : IVec S4x5000 32 := (broadcastInDim S4x5000 ![0, 1] bcast_S4x1_S4x5000_0_1) b_v193
  have b_v196 : IVec S4x5000 1 := (cmpi .eq) b_v194 b_v195
  have b_v197 : IVec S4x5000 1 := (ori) b_v190 b_v196
  have b_v200 : IVec S4x5000 1 := (andi) b_v199 b_v197
  have b_cst_28 : FVec F S_ .f32 := (constant S_ .f32 0xBF800000#32)
  have b_call9_v0 : FVec F S_ .f32 := id b_cst_28
  have b_call9_v1 : FVec F S5000 .f32 := (broadcastInDim S5000 ![] bcast_S_S5000) b_call9_v0
  have b_call9_v2 : FVec F S4x5000 .f32 := (broadcastInDim S4x5000 ![1] bcast_S5000_S4x5000_1) b_call9_v1
  have b_v201 : FVec F S4x5000 .f32 := select b_v200 b_call9_v2 v109_3
  b_v201

/-- The choices with the new one written in. -/
def tIdxs (v109_4 : IVec S100x4 32) (v109_2 : IVec S_ 32) (b_v141 : IVec S4 32) : IVec S100x4 32 :=
  have b_call10_v0 : IVec S1x4 32 := (broadcastInDim S1x4 ![1] bcast_S4_S1x4_1) b_v141
  have b_call10_c : IVec S_ 32 := (constantI S_ 32 0#32)
  have b_v202 : IVec S100x4 32 := (fun x u i => Host.dynamicUpdateSlice x u (fun k => (i k (Shape.Idx.first h_S_)).toInt) updateFits_S100x4_S1x4) v109_4 b_call10_v0 ![v109_2, b_call10_c]
  b_v202

/-- Their validity with the new one written in. -/
def tValids (v109_5 : IVec S100x4 1) (v109_2 : IVec S_ 32) (b_v144 : IVec S4 1) : IVec S100x4 1 :=
  have b_call11_v0 : IVec S1x4 1 := (broadcastInDim S1x4 ![1] bcast_S4_S1x4_1) b_v144
  have b_call11_c : IVec S_ 32 := (constantI S_ 32 0#32)
  have b_v203 : IVec S100x4 1 := (fun x u i => Host.dynamicUpdateSlice x u (fun k => (i k (Shape.Idx.first h_S_)).toInt) updateFits_S100x4_S1x4) v109_5 b_call11_v0 ![v109_2, b_call11_c]
  b_v203

/-- The chosen rows: boxes, ids and raw scores. -/
def qRows (v83 : FVec F S4x5000x4 .f32) (v2 : IVec S4x5000 32) (v5 : FVec F S4x5000 .f32) (v109_4 : IVec S100x4 32) : FVec F S4x100x6 .f32 :=
  have c_11 : IVec S_ 32 := (constantI S_ 32 0#32)
  have v110 : IVec S100x4 32 := (broadcastInDim S100x4 ![] bcast_S_S100x4) c_11
  have v111 : IVec S100x4 1 := (cmpi .slt) v109_4 v110
  have c_12 : IVec S_ 32 := (constantI S_ 32 5000#32)
  have v112 : IVec S100x4 32 := (broadcastInDim S100x4 ![] bcast_S_S100x4) c_12
  have v113 : IVec S100x4 32 := (addi) v109_4 v112
  have v114 : IVec S100x4 32 := (select) v111 v113 v109_4
  have v115 : IVec S4x100 32 := ((transpose S4x100 [1, 0] · transposes_S100x4_S4x100_1_0)) v114
  have v116 : IVec S4x100x1 32 := (broadcastInDim S4x100x1 ![0, 1] bcast_S4x100_S4x100x1_0_1) v115
  have v117 : FVec F S4x100x4 .f32 := ((fun x i => Host.gather gather_S4x5000x4_S4x100x1_S4x100x4_2_1_0_0_1_2_114 x i)) v83 v116
  have c_13 : IVec S_ 32 := (constantI S_ 32 0#32)
  have v118 : IVec S100x4 32 := (broadcastInDim S100x4 ![] bcast_S_S100x4) c_13
  have v119 : IVec S100x4 1 := (cmpi .slt) v109_4 v118
  have c_14 : IVec S_ 32 := (constantI S_ 32 5000#32)
  have v120 : IVec S100x4 32 := (broadcastInDim S100x4 ![] bcast_S_S100x4) c_14
  have v121 : IVec S100x4 32 := (addi) v109_4 v120
  have v122 : IVec S100x4 32 := (select) v119 v121 v109_4
  have v123 : IVec S4x100 32 := ((transpose S4x100 [1, 0] · transposes_S100x4_S4x100_1_0)) v122
  have v124 : IVec S4x100x1 32 := (broadcastInDim S4x100x1 ![0, 1] bcast_S4x100_S4x100x1_0_1) v123
  have v125 : IVec S4x100 32 := ((fun x i => Host.gather gather_S4x5000_S4x100x1_S4x100_n_1_0_0_1_2_11 x i)) v2 v124
  have v126 : FVec F S4x100 .f32 := (sitofp .f32) v125
  have v127 : FVec F S4x100x1 .f32 := (broadcastInDim S4x100x1 ![0, 1] bcast_S4x100_S4x100x1_0_1) v126
  have c_15 : IVec S_ 32 := (constantI S_ 32 0#32)
  have v128 : IVec S100x4 32 := (broadcastInDim S100x4 ![] bcast_S_S100x4) c_15
  have v129 : IVec S100x4 1 := (cmpi .slt) v109_4 v128
  have c_16 : IVec S_ 32 := (constantI S_ 32 5000#32)
  have v130 : IVec S100x4 32 := (broadcastInDim S100x4 ![] bcast_S_S100x4) c_16
  have v131 : IVec S100x4 32 := (addi) v109_4 v130
  have v132 : IVec S100x4 32 := (select) v129 v131 v109_4
  have v133 : IVec S4x100 32 := ((transpose S4x100 [1, 0] · transposes_S100x4_S4x100_1_0)) v132
  have v134 : IVec S4x100x1 32 := (broadcastInDim S4x100x1 ![0, 1] bcast_S4x100_S4x100x1_0_1) v133
  have v135 : FVec F S4x100 .f32 := ((fun x i => Host.gather gather_S4x5000_S4x100x1_S4x100_n_1_0_0_1_2_11 x i)) v5 v134
  have v136 : FVec F S4x100x1 .f32 := (broadcastInDim S4x100x1 ![0, 1] bcast_S4x100_S4x100x1_0_1) v135
  have v137 : FVec F S4x100x6 .f32 := (concatenate S4x100x6 2 [⟨S4x100x4, v117⟩, ⟨S4x100x1, v127⟩, ⟨S4x100x1, v136⟩] concatenates_S4x100x4_S4x100x1_S4x100x1_S4x100x6_d2)
  v137

/-- The result: the chosen rows, zero where the choice is not valid. -/
def qOut (v137 : FVec F S4x100x6 .f32) (v109_5 : IVec S100x4 1) : FVec F S4x100x6 .f32 :=
  have v138 : IVec S4x100 1 := ((transpose S4x100 [1, 0] · transposes_S100x4_S4x100_1_0)) v109_5
  have v139 : IVec S4x100x1 1 := (broadcastInDim S4x100x1 ![0, 1] bcast_S4x100_S4x100x1_0_1) v138
  have call12_v1 : IVec S4x100x6 1 := (broadcastInDim S4x100x6 ![0, 1, 2] bcast_S4x100x1_S4x100x6_0_1_2) v139
  have cst_17 : FVec F S_ .f32 := (constant S_ .f32 0x00000000#32)
  have call12_v0 : FVec F S_ .f32 := id cst_17
  have call12_v2 : FVec F S100x6 .f32 := (broadcastInDim S100x6 ![] bcast_S_S100x6) call12_v0
  have call12_v3 : FVec F S4x100x6 .f32 := (broadcastInDim S4x100x6 ![1, 2] bcast_S100x6_S4x100x6_1_2) call12_v2
  have v140 : FVec F S4x100x6 .f32 := select call12_v1 v137 call12_v3
  v140

/-! ## Joining columns and writing a row, operand by operand -/

/-- Four columns joined. -/
theorem join4_congr {a b c d a' b' c' d' : FVec F S4x5000x1 .f32} (ha : a = a') (hb : b = b') (hc : c = c') (hd : d = d') :
    (concatenate S4x5000x4 2 [⟨S4x5000x1, a⟩, ⟨S4x5000x1, b⟩, ⟨S4x5000x1, c⟩, ⟨S4x5000x1, d⟩] concatenates_S4x5000x1_S4x5000x1_S4x5000x1_S4x5000x1_S4x5000x4_d2 : FVec F S4x5000x4 .f32)
      = concatenate S4x5000x4 2 [⟨S4x5000x1, a'⟩, ⟨S4x5000x1, b'⟩, ⟨S4x5000x1, c'⟩, ⟨S4x5000x1, d'⟩] concatenates_S4x5000x1_S4x5000x1_S4x5000x1_S4x5000x1_S4x5000x4_d2 := by
  subst ha hb hc hd; rfl

/-- Boxes, ids and scores joined. -/
theorem join3_congr {a a' : FVec F S4x100x4 .f32} {b c b' c' : FVec F S4x100x1 .f32} (ha : a = a') (hb : b = b') (hc : c = c') :
    (concatenate S4x100x6 2 [⟨S4x100x4, a⟩, ⟨S4x100x1, b⟩, ⟨S4x100x1, c⟩] concatenates_S4x100x4_S4x100x1_S4x100x1_S4x100x6_d2 : FVec F S4x100x6 .f32)
      = concatenate S4x100x6 2 [⟨S4x100x4, a'⟩, ⟨S4x100x1, b'⟩, ⟨S4x100x1, c'⟩] concatenates_S4x100x4_S4x100x1_S4x100x1_S4x100x6_d2 := by
  subst ha hb hc; rfl

/-- A row written at a place. -/
theorem write_congr {α : Type} {x x' : S100x4.Idx → α} {u u' : S1x4.Idx → α} {f f' : Fin 2 → Int} (hx : x = x') (hu : u = u') (h0 : f 0 = f' 0) (h1 : f 1 = f' 1) :
    Host.dynamicUpdateSlice x u f updateFits_S100x4_S1x4 = Host.dynamicUpdateSlice x' u' f' updateFits_S100x4_S1x4 := by
  have : f = f' := funext fun k => match k with | 0 => h0 | 1 => h1
  subst hx hu this; rfl

/-! ## What the operations leave -/

variable (V : Valuation τ sig (Elt F))
/-- Before the loop: the refined boxes, -/
theorem entry_v58 : afterL preI V (Proc.devRef .tc main_v58) = pRefined (V (Proc.devRef .tc main_arg0)) (V (Proc.devRef .tc main_arg1)) := by
  simp only [trip, StableHlo.afterL_cons, StableHlo.afterL_nil]
  after_reads_simp
  dsimp only [Matrix.cons_val]
  refine join4_congr ?_ ?_ ?_ ?_ <;> (after_reads_simp <;> rfl)
/-- the clipped ones, -/
theorem entry_v83 : afterL preI V (Proc.devRef .tc main_v83) = pBoxes (afterL preI V (Proc.devRef .tc main_v58)) := by
  simp only [trip, StableHlo.afterL_cons, StableHlo.afterL_nil]
  after_reads_simp
  dsimp only [Matrix.cons_val]
  refine join4_congr ?_ ?_ ?_ ?_ <;> (after_reads_simp <;> rfl)
/-- the ids, -/
theorem entry_v2 : afterL preI V (Proc.devRef .tc main_v2) = pIds (V (Proc.devRef .tc main_arg1)) := by
  simp only [trip, StableHlo.afterL_cons, StableHlo.afterL_nil]
  after_reads_simp
  rfl
/-- the raw scores, -/
theorem entry_v5 : afterL preI V (Proc.devRef .tc main_v5) = pRaw (V (Proc.devRef .tc main_arg1)) := by
  simp only [trip, StableHlo.afterL_cons, StableHlo.afterL_nil]
  after_reads_simp
  rfl
/-- the boxes moved apart, -/
theorem entry_0 : afterL preI V (Proc.devRef .tc main_v109_0) = pOff (afterL preI V (Proc.devRef .tc main_v83)) (afterL preI V (Proc.devRef .tc main_v2)) := by
  simp only [trip, StableHlo.afterL_cons, StableHlo.afterL_nil]
  after_reads_simp
  rfl
/-- their areas, -/
theorem entry_1 : afterL preI V (Proc.devRef .tc main_v109_1) = pArea (afterL preI V (Proc.devRef .tc main_v109_0)) := by
  simp only [trip, StableHlo.afterL_cons, StableHlo.afterL_nil]
  after_reads_simp
  rfl
/-- the scores, -/
theorem entry_3 : afterL preI V (Proc.devRef .tc main_v109_3) = pScores (afterL preI V (Proc.devRef .tc main_v2)) (afterL preI V (Proc.devRef .tc main_v5)) := by
  simp only [trip, StableHlo.afterL_cons, StableHlo.afterL_nil]
  after_reads_simp
  rfl
/-- no choices -/
theorem entry_4 : afterL preI V (Proc.devRef .tc main_v109_4) = pZeroI := by
  simp only [trip, StableHlo.afterL_cons, StableHlo.afterL_nil]
  after_reads_simp
  rfl
/-- and none valid. -/
theorem entry_5 : afterL preI V (Proc.devRef .tc main_v109_5) = pZeroB := by
  simp only [trip, StableHlo.afterL_cons, StableHlo.afterL_nil]
  after_reads_simp
  rfl
/-- One trip leaves this buffer alone. -/
theorem trip_v83 : trip V (Proc.devRef .tc main_v83) = (V (Proc.devRef .tc main_v83)) := by
  simp only [trip, StableHlo.afterL_cons, StableHlo.afterL_nil]
  after_reads_simp

/-- One trip leaves this buffer alone. -/
theorem trip_v2 : trip V (Proc.devRef .tc main_v2) = (V (Proc.devRef .tc main_v2)) := by
  simp only [trip, StableHlo.afterL_cons, StableHlo.afterL_nil]
  after_reads_simp

/-- One trip leaves this buffer alone. -/
theorem trip_v5 : trip V (Proc.devRef .tc main_v5) = (V (Proc.devRef .tc main_v5)) := by
  simp only [trip, StableHlo.afterL_cons, StableHlo.afterL_nil]
  after_reads_simp

/-- One trip leaves this buffer alone. -/
theorem trip_v109_0 : trip V (Proc.devRef .tc main_v109_0) = (V (Proc.devRef .tc main_v109_0)) := by
  simp only [trip, StableHlo.afterL_cons, StableHlo.afterL_nil]
  after_reads_simp

/-- One trip leaves this buffer alone. -/
theorem trip_v109_1 : trip V (Proc.devRef .tc main_v109_1) = (V (Proc.devRef .tc main_v109_1)) := by
  simp only [trip, StableHlo.afterL_cons, StableHlo.afterL_nil]
  after_reads_simp

/-- One trip on the scores, -/
theorem trip_3 : trip V (Proc.devRef .tc main_v109_3) = tScores (V (Proc.devRef .tc main_v109_1)) (V (Proc.devRef .tc main_v109_3)) (tIdx (V (Proc.devRef .tc main_v109_3))) (tValid (V (Proc.devRef .tc main_v109_3)) (tIdx (V (Proc.devRef .tc main_v109_3)))) (tInter (V (Proc.devRef .tc main_v109_0)) (tIdx (V (Proc.devRef .tc main_v109_3)))) := by
  simp only [trip, StableHlo.afterL_cons, StableHlo.afterL_nil]
  after_reads_simp
  rfl
/-- on the choices -/
theorem trip_4 : trip V (Proc.devRef .tc main_v109_4) = tIdxs (V (Proc.devRef .tc main_v109_4)) (V (Proc.devRef .tc main_v109_2)) (tIdx (V (Proc.devRef .tc main_v109_3))) := by
  simp only [trip, StableHlo.afterL_cons, StableHlo.afterL_nil]
  after_reads_simp
  refine write_congr ?_ ?_ ?_ ?_ <;> first | rfl | (dsimp only [Matrix.cons_val]; after_reads_simp; rfl)
/-- and on their validity. -/
theorem trip_5 : trip V (Proc.devRef .tc main_v109_5) = tValids (V (Proc.devRef .tc main_v109_5)) (V (Proc.devRef .tc main_v109_2)) (tValid (V (Proc.devRef .tc main_v109_3)) (tIdx (V (Proc.devRef .tc main_v109_3)))) := by
  simp only [trip, StableHlo.afterL_cons, StableHlo.afterL_nil]
  after_reads_simp
  refine write_congr ?_ ?_ ?_ ?_ <;> first | rfl | (dsimp only [Matrix.cons_val]; after_reads_simp; rfl)
/-- After the loop: the chosen rows -/
theorem exit_137 : afterL postI (after condOps V) (Proc.devRef .tc main_v137) = qRows (V (Proc.devRef .tc main_v83)) (V (Proc.devRef .tc main_v2)) (V (Proc.devRef .tc main_v5)) (V (Proc.devRef .tc main_v109_4)) := by
  simp only [trip, StableHlo.afterL_cons, StableHlo.afterL_nil]
  after_reads_simp
  dsimp only [Matrix.cons_val]
  refine join3_congr ?_ ?_ ?_ <;> (after_reads_simp <;> rfl)
/-- and the result. -/
theorem exit_140 : afterL postI (after condOps V) (Proc.devRef .tc main_v140) = qOut (afterL postI (after condOps V) (Proc.devRef .tc main_v137)) (V (Proc.devRef .tc main_v109_5)) := by
  simp only [trip, StableHlo.afterL_cons, StableHlo.afterL_nil]
  after_reads_simp
  rfl

end Cert.ReferenceIdeal.Body

end
-- ==== Proof.RefRead.lean ====
/-
  The reference's functions, read at an index on the extended reals.
-/
module

public import Idealize.ShloMosaic.Lib.IdealHost
public import proofs.«01_k».proof.Proof.RefValue
public import proofs.«01_k».proof.Proof.Nms
public import Idealize.ShloMosaic.Lib.Pointwise

@[expose] public section

set_option maxRecDepth 16384

noncomputable section

namespace Cert.ReferenceIdeal.Body

open Cert.ReferenceIdeal Cert.ReferenceIdeal.Gen Cert.Nms
open Idealize.ShloMosaic Idealize.ShloMosaic.TcCoe Idealize.ShloMosaic.Tactic

/-! ## Entries taken at given places -/

/-- One entry per row. -/
theorem take_row {α : Type} (x : S4x5000.Idx → α) (i : IVec S4x1 32) (b : Fin 4) (p : Fin 5000) (hp : i (ix2 b 0) = BitVec.ofNat 32 p) :
    Host.gather gather_S4x5000_S4x1_S4_n_1_0_0_1_1_11 x i (ix1 b) = x (ix2 b p) := by
  have hs : ∀ c, gather_S4x5000_S4x1_S4_n_1_0_0_1_1_11.siIdx (ix1 b) c = ix2 b 0 := fun c => funext fun q => match q with
    | 0 => rfl
    | 1 => Subsingleton.elim (α := Fin 1) _ _
  unfold Host.gather
  congr 1
  funext a
  apply Fin.ext
  match a with
  | 0 => exact Nat.zero_add b.val
  | 1 =>
    show min (i (gather_S4x5000_S4x1_S4_n_1_0_0_1_1_11.siIdx (ix1 b) _)).toInt.toNat 4999 = p.val
    rw [hs, hp, toInt_ofNat (by omega)]
    omega

/-- One box per row. -/
theorem take_box {α : Type} (x : S4x5000x4.Idx → α) (i : IVec S4x1 32) (b c : Fin 4) (p : Fin 5000) (hp : i (ix2 b 0) = BitVec.ofNat 32 p) :
    Host.gather gather_S4x5000x4_S4x1_S4x4_1_1_0_0_1_1_114 x i (ix2 b c) = x (ix3 b p c) := by
  have hs : ∀ k, gather_S4x5000x4_S4x1_S4x4_1_1_0_0_1_1_114.siIdx (ix2 b c) k = ix2 b 0 := fun c => funext fun q => match q with
    | 0 => rfl
    | 1 => Subsingleton.elim (α := Fin 1) _ _
  unfold Host.gather
  congr 1
  funext a
  apply Fin.ext
  match a with
  | 0 => exact Nat.zero_add b.val
  | 1 =>
    show min (i (gather_S4x5000x4_S4x1_S4x4_1_1_0_0_1_1_114.siIdx (ix2 b c) _)).toInt.toNat 4999 = p.val
    rw [hs, hp, toInt_ofNat (by omega)]
    omega
  | 2 => exact Nat.zero_add c.val

/-- A hundred entries per row. -/
theorem takes_row {α : Type} (x : S4x5000.Idx → α) (i : IVec S4x100x1 32) (b : Fin 4) (l : Fin 100) (p : Fin 5000) (hp : i (ix3 b l 0) = BitVec.ofNat 32 p) :
    Host.gather gather_S4x5000_S4x100x1_S4x100_n_1_0_0_1_2_11 x i (ix2 b l) = x (ix2 b p) := by
  have hs : ∀ k, gather_S4x5000_S4x100x1_S4x100_n_1_0_0_1_2_11.siIdx (ix2 b l) k = ix3 b l 0 := fun c => funext fun q => match q with
    | 0 => rfl
    | 1 => rfl
    | 2 => Subsingleton.elim (α := Fin 1) _ _
  unfold Host.gather
  congr 1
  funext a
  apply Fin.ext
  match a with
  | 0 => exact Nat.zero_add b.val
  | 1 =>
    show min (i (gather_S4x5000_S4x100x1_S4x100_n_1_0_0_1_2_11.siIdx (ix2 b l) _)).toInt.toNat 4999 = p.val
    rw [hs, hp, toInt_ofNat (by omega)]
    omega

/-- A hundred boxes per row. -/
theorem takes_box {α : Type} (x : S4x5000x4.Idx → α) (i : IVec S4x100x1 32) (b : Fin 4) (l : Fin 100) (c : Fin 4) (p : Fin 5000) (hp : i (ix3 b l 0) = BitVec.ofNat 32 p) :
    Host.gather gather_S4x5000x4_S4x100x1_S4x100x4_2_1_0_0_1_2_114 x i (ix3 b l c) = x (ix3 b p c) := by
  have hs : ∀ k, gather_S4x5000x4_S4x100x1_S4x100x4_2_1_0_0_1_2_114.siIdx (ix3 b l c) k = ix3 b l 0 := fun c => funext fun q => match q with
    | 0 => rfl
    | 1 => rfl
    | 2 => Subsingleton.elim (α := Fin 1) _ _
  unfold Host.gather
  congr 1
  funext a
  apply Fin.ext
  match a with
  | 0 => exact Nat.zero_add b.val
  | 1 =>
    show min (i (gather_S4x5000x4_S4x100x1_S4x100x4_2_1_0_0_1_2_114.siIdx (ix3 b l c) _)).toInt.toNat 4999 = p.val
    rw [hs, hp, toInt_ofNat (by omega)]
    omega
  | 2 => exact Nat.zero_add c.val

/-! ## The first box of greatest score -/

/-- `b` comes no earlier than `a` in the order of the search: a greater score first, then a smaller number. -/
def Before (a b : EReal × BitVec 32) : Prop := b.1 < a.1 ∨ b.1 = a.1 ∧ a.2.toInt ≤ b.2.toInt

/-- `Before` is transitive. -/
theorem Before.trans {a b c : EReal × BitVec 32} (h : Before a b) (k : Before b c) : Before a c := by
  unfold Before at *
  rcases h with h | ⟨h, h'⟩ <;> rcases k with k | ⟨k, k'⟩
  · exact .inl (k.trans h)
  · exact .inl (k ▸ h)
  · exact .inl (h ▸ k)
  · exact .inr ⟨k.trans h, h'.trans k'⟩

/-- The reducer keeps one of its two operands, and it is before both. -/
theorem reducer_pick (a b : EReal × BitVec 32) :
    (reducer_argmax_f32_i32 (F := Ideal) a b = a ∨ reducer_argmax_f32_i32 (F := Ideal) a b = b)
      ∧ Before (reducer_argmax_f32_i32 (F := Ideal) a b) a ∧ Before (reducer_argmax_f32_i32 (F := Ideal) a b) b := by
  obtain ⟨x, i⟩ := a
  obtain ⟨y, j⟩ := b
  have key : reducer_argmax_f32_i32 (F := Ideal) (x, i) (y, j) = if y < x ∨ x = y ∧ i.toInt < j.toInt then (x, i) else (y, j) := by
    unfold reducer_argmax_f32_i32
    dsimp only
    have hslt : IntOp.cmpi .slt i j = BitVec.ofBool (decide (i.toInt < j.toInt)) := by rw [IntOp.cmpi, BitVec.slt_eq_decide]
    rw [hslt]
    simp only [Ideal.cmpf_def, Ideal.cmp, IntOp.ori, IntOp.andi]
    rcases lt_trichotomy x y with h | h | h
    · simp [h, h.not_gt, h.ne, Scalar.select]
    · subst h
      by_cases hij : i.toInt < j.toInt <;> simp [hij, Scalar.select]
    · simp [h, h.ne', Scalar.select]
  rw [key]
  split
  · rename_i h
    refine ⟨.inl rfl, .inr ⟨rfl, le_rfl⟩, ?_⟩
    rcases h with h | ⟨h, h'⟩
    · exact .inl h
    · exact .inr ⟨h.symm, h'.le⟩
  · rename_i h
    rw [not_or, not_lt, not_and] at h
    refine ⟨.inr rfl, ?_, .inr ⟨rfl, le_rfl⟩⟩
    rcases lt_or_eq_of_le h.1 with h1 | h1
    · exact .inl h1
    · exact .inr ⟨h1, not_lt.1 (h.2 h1)⟩

/-- The search over a list ends at an entry (or at what it started from) that is before all. -/
theorem foldl_pick (L : List (EReal × BitVec 32)) : ∀ a, (L.foldl (reducer_argmax_f32_i32 (F := Ideal)) a = a ∨ L.foldl (reducer_argmax_f32_i32 (F := Ideal)) a ∈ L)
    ∧ Before (L.foldl (reducer_argmax_f32_i32 (F := Ideal)) a) a ∧ ∀ e ∈ L, Before (L.foldl (reducer_argmax_f32_i32 (F := Ideal)) a) e := by
  induction L with
  | nil => exact fun a => ⟨.inl rfl, .inr ⟨rfl, le_rfl⟩, by simp⟩
  | cons e L ih =>
    intro a
    obtain ⟨hp, ha, he⟩ := reducer_pick a e
    obtain ⟨h1, h2, h3⟩ := ih (reducer_argmax_f32_i32 (F := Ideal) a e)
    rw [List.foldl_cons]
    refine ⟨?_, h2.trans ha, fun e' he' => ?_⟩
    · rcases h1 with h1 | h1
      · rw [h1]
        rcases hp with hp | hp
        · exact .inl hp
        · exact .inr (by rw [hp]; exact List.mem_cons_self)
      · exact .inr (List.mem_cons_of_mem _ h1)
    · rcases List.mem_cons.1 he' with rfl | he'
      · exact h2.trans he
      · exact h3 e' he'

/-- The search of one trip: the first place of greatest score. -/
theorem tIdx_top (s : FVec Ideal S4x5000 .f32) (b : Fin 4) (p : Fin 5000) (hp : Top (fun k => s (ix2 b k)) p) : tIdx s (ix1 b) = BitVec.ofNat 32 p := by
  show (Host.argReduce (reducer_argmax_f32_i32 (F := Ideal)) s (iotaInDim S4x5000 32 1) (constant S_ .f32 0xFF800000#32) (constantI S_ 32 0#32) reducesTo_S4x5000_S4_d1 h_S_ (ix1 b)).2 = _
  rw [Ideal.argReduce_eq_reduce2, Host.reduce2_eq_foldl_fiber]
  unfold Host.argReduceFiber
  have hdrop : ∀ i : S4x5000.Idx, reducesTo_S4x5000_S4_d1.drop i = ix1 b → i = ix2 b (i 1) := fun i h => by
    funext q
    match q with
    | 0 => exact congrFun h 0
    | 1 => rfl
  have hdrop' : ∀ k : Fin 5000, reducesTo_S4x5000_S4_d1.drop (ix2 b k) = ix1 b := fun k => funext fun q => match q with
    | 0 => rfl
  generalize hL : List.map (fun n => (s (S4x5000.rowMajor.symm n), iotaInDim S4x5000 32 1 (S4x5000.rowMajor.symm n)))
      (List.filter (fun n => decide (reducesTo_S4x5000_S4_d1.drop (S4x5000.rowMajor.symm n) = ix1 b)) (List.finRange S4x5000.numel)) = L
  have hmem : ∀ e ∈ L, ∃ k : Fin 5000, e = (s (ix2 b k), BitVec.ofNat 32 k) := fun e he => by
    subst hL
    obtain ⟨n, hn, rfl⟩ := List.mem_map.1 he
    have hn := hdrop _ (of_decide_eq_true (List.mem_filter.1 hn).2)
    exact ⟨_, by rw [hn]; rfl⟩
  have hmem' : (s (ix2 b p), BitVec.ofNat 32 p) ∈ L := by
    subst hL
    refine List.mem_map.2 ⟨S4x5000.rowMajor (ix2 b p), List.mem_filter.2 ⟨List.mem_finRange _, decide_eq_true ?_⟩, ?_⟩
    · rw [Equiv.symm_apply_apply]; exact hdrop' p
    · rw [Equiv.symm_apply_apply]; rfl
  have hbot : (constant (F := Ideal) S_ .f32 0xFF800000#32 (Shape.Idx.first h_S_), constantI S_ 32 0#32 (Shape.Idx.first h_S_)) = ((⊥ : EReal), 0#32) := congrArg (·, 0#32) ofBits_ninf
  obtain ⟨h1, -, h3⟩ := foldl_pick L ((⊥ : EReal), 0#32)
  have h3 := h3 _ hmem'
  refine Eq.trans (congrArg (fun a => (L.foldl (reducer_argmax_f32_i32 (F := Ideal)) a).2) hbot) ?_
  generalize L.foldl (reducer_argmax_f32_i32 (F := Ideal)) ((⊥ : EReal), 0#32) = e at h1 h3
  rcases h1 with h1 | h1
  · subst h1
    have hsp : s (ix2 b p) = ⊥ := by
      rcases h3 with h3 | h3
      · exact absurd h3 not_lt_bot
      · exact h3.1
    have : p ≤ (0 : Fin 5000) := hp.2 0 (by
      have := hp.1 0
      simp only [hsp] at this ⊢
      exact le_bot_iff.1 this)
    have : p.val = 0 := Nat.le_zero.1 this
    rw [this]
  · obtain ⟨k, rfl⟩ := hmem e h1
    have hk : k = p := by
      rcases h3 with h3 | ⟨h3, h4⟩
      · exact absurd h3 (not_lt.2 (hp.1 k))
      · have := hp.2 k h3.symm
        rw [toInt_ofNat (by omega), toInt_ofNat (by omega)] at h4
        apply Fin.ext
        have : p.val ≤ k.val := this
        omega
    rw [hk]

/-! ## One trip, at an index -/

/-- A column of one number per row. -/
theorem spread_at (x : IVec S4 32) (b : Fin 4) : broadcastInDim S4x1 ![0] bcast_S4_S4x1_0 x (ix2 b 0) = x (ix1 b) := by
  pointwise

/-- Whether the best score is above zero. -/
theorem tValid_at (s : FVec Ideal S4x5000 .f32) (x : IVec S4 32) (b : Fin 4) (p : Fin 5000) (hx : x (ix1 b) = BitVec.ofNat 32 p) :
    tValid s x (ix1 b) = BitVec.ofBool (decide (0 < s (ix2 b p))) := by
  pointwise [tValid]
  rw [take_row s _ b p ((spread_at x b).trans hx)]

/-- The shared area with the best box. -/
theorem tInter_at (a : FVec Ideal S4x5000x4 .f32) (x : IVec S4 32) (b : Fin 4) (p j : Fin 5000) (hx : x (ix1 b) = BitVec.ofNat 32 p) :
    tInter a x (ix2 b j) = share (fun c => a (ix3 b p c)) (fun c => a (ix3 b j c)) := by
  pointwise [tInter]
  simp only [take_box a _ b _ p ((spread_at x b).trans hx)]
  rfl

/-- The next scores. -/
theorem tScores_at (a : FVec Ideal S4x5000x4 .f32) (ar s sh : FVec Ideal S4x5000 .f32) (x : IVec S4 32) (v : IVec S4 1) (b : Fin 4) (p j : Fin 5000)
    (har : ∀ j, ar (ix2 b j) = area fun c => a (ix3 b j c)) (hx : x (ix1 b) = BitVec.ofNat 32 p)
    (hv : v (ix1 b) = BitVec.ofBool (decide (0 < s (ix2 b p)))) (hsh : sh (ix2 b j) = share (fun c => a (ix3 b p c)) (fun c => a (ix3 b j c))) :
    tScores ar s x v sh (ix2 b j) = next (fun j c => a (ix3 b j c)) p (fun j => s (ix2 b j)) j := by
  pointwise [tScores]
  rw [take_row ar _ b p ((spread_at x b).trans hx), hv, hx, hsh, har, har, cmpi_eq_ofNat (by norm_num), select_and_or]
  unfold next over
  congr

/-! ## Before the loop, at an index -/

variable (a0 : FVec Ideal S4x5000x4 .f32) (a1 : FVec Ideal S4x5000x6 .f32)

/-- The refined, clipped boxes. -/
theorem boxes_at (b : Fin 4) (j : Fin 5000) (c : Fin 4) :
    pBoxes (pRefined a0 a1) (ix3 b j c) = coord (fun c => a0 (ix3 b j c)) (fun c => a1 (ix3 b j c)) c := by
  have l0 : lit0 (S4.rowMajor (ix1 0)) = 0x3DCCCCCD#32 := by decide
  have l1 : lit0 (S4.rowMajor (ix1 1)) = 0x3DCCCCCD#32 := by decide
  have l2 : lit0 (S4.rowMajor (ix1 2)) = 0x3E4CCCCD#32 := by decide
  have l3 : lit0 (S4.rowMajor (ix1 3)) = 0x3E4CCCCD#32 := by decide
  have k0 : lit1 (S4.rowMajor (ix1 0)) = 0x00000000#32 := by decide
  have k1 : lit1 (S4.rowMajor (ix1 1)) = 0x00000000#32 := by decide
  have k2 : lit1 (S4.rowMajor (ix1 2)) = 0x3F800000#32 := by decide
  have k3 : lit1 (S4.rowMajor (ix1 3)) = 0x3F800000#32 := by decide
  have z : Ideal.ofBits .f32 0x00000000#32 = 0 := Ideal.ofBits_zero_f32
  have o : Ideal.ofBits .f32 0x3F800000#32 = 1 := Idealize.ShloMosaic.Ideal.ofBits_one_f32
  pointwise [pBoxes]
  rw [k0, k1, k2, k3, z, o]
  pointwise [pRefined]
  rw [l0, l1, l2, l3]
  fin_cases c <;> rfl

/-- The starting scores. -/
theorem scores_at (b : Fin 4) (j : Fin 5000) : pScores (F := Ideal) (pIds a1) (pRaw a1) (ix2 b j) = score fun c => a1 (ix3 b j c) := by
  pointwise [pScores, pIds, pRaw]
  exact select_score fun c => a1 (ix3 b j c)

/-- The ids and the raw scores. -/
theorem ids_at (b : Fin 4) (j : Fin 5000) : pIds a1 (ix2 b j) = ident fun c => a1 (ix3 b j c) := by
  pointwise [pIds]
  rfl
/-- The raw score of box `j` is column 5. -/
theorem raw_at (b : Fin 4) (j : Fin 5000) : pRaw a1 (ix2 b j) = a1 (ix3 b j 5) := by
  pointwise [pRaw]

/-- The boxes moved apart. -/
theorem off_at (x : FVec Ideal S4x5000x4 .f32) (y : IVec S4x5000 32) (b : Fin 4) (j : Fin 5000) (c : Fin 4) :
    pOff x y (ix3 b j c) = x (ix3 b j c) + FloatOps.sitofp (F := Ideal) .f32 (y (ix2 b j)) * Ideal.ofBits .f32 0x40800000#32 := by
  pointwise [pOff]

/-- Their areas. -/
theorem pArea_at (x : FVec Ideal S4x5000x4 .f32) (b : Fin 4) (j : Fin 5000) : pArea x (ix2 b j) = area fun c => x (ix3 b j c) := by
  pointwise [pArea]
  rfl

/-! ## The written choices -/

/-- Trip `k` writes row `k` of the choices, -/
theorem tIdxs_at (w : IVec S100x4 32) (q : IVec S_ 32) (v : IVec S4 32) (k : ℕ) (hk : k < 100) (hq : q = fun _ => BitVec.ofNat 32 k) (l : Fin 100) (b : Fin 4) :
    tIdxs w q v (ix2 l b) = if l.val = k then v (ix1 b) else w (ix2 l b) := by
  pointwise [tIdxs]
  subst hq
  have h0 : ∀ h, Host.clampedStart S100x4 S1x4 h (fun i => ((![fun _ => BitVec.ofNat 32 k, constantI S_ 32 0#32] : Fin 2 → IVec S_ 32) i (Shape.Idx.first h_S_)).toInt) 0 = k := fun h => by
    exact Host.clampedStart_of_le h _ 0 k (toInt_ofNat (by omega)) (show k + 1 ≤ 100 by omega)
  have h1 : ∀ h, Host.clampedStart S100x4 S1x4 h (fun i => ((![fun _ => BitVec.ofNat 32 k, constantI S_ 32 0#32] : Fin 2 → IVec S_ 32) i (Shape.Idx.first h_S_)).toInt) 1 = 0 := fun h => by
    rfl
  simp only [h0, h1]
  by_cases h : l.val = k
  · rw [dif_pos (by omega), if_pos h]
    rfl
  · rw [dif_neg (by omega), if_neg h]

/-- and of their validity. -/
theorem tValids_at (w : IVec S100x4 1) (q : IVec S_ 32) (v : IVec S4 1) (k : ℕ) (hk : k < 100) (hq : q = fun _ => BitVec.ofNat 32 k) (l : Fin 100) (b : Fin 4) :
    tValids w q v (ix2 l b) = if l.val = k then v (ix1 b) else w (ix2 l b) := by
  pointwise [tValids]
  subst hq
  have h0 : ∀ h, Host.clampedStart S100x4 S1x4 h (fun i => ((![fun _ => BitVec.ofNat 32 k, constantI S_ 32 0#32] : Fin 2 → IVec S_ 32) i (Shape.Idx.first h_S_)).toInt) 0 = k := fun h => by
    exact Host.clampedStart_of_le h _ 0 k (toInt_ofNat (by omega)) (show k + 1 ≤ 100 by omega)
  have h1 : ∀ h, Host.clampedStart S100x4 S1x4 h (fun i => ((![fun _ => BitVec.ofNat 32 k, constantI S_ 32 0#32] : Fin 2 → IVec S_ 32) i (Shape.Idx.first h_S_)).toInt) 1 = 0 := fun h => by
    rfl
  simp only [h0, h1]
  by_cases h : l.val = k
  · rw [dif_pos (by omega), if_pos h]
    rfl
  · rw [dif_neg (by omega), if_neg h]

/-! ## The result, at an index -/

/-- The index column the result is looked up with. -/
theorem column_at (w : IVec S100x4 32) (b : Fin 4) (l : Fin 100) (p : Fin 5000) (hp : w (ix2 l b) = BitVec.ofNat 32 p) :
    broadcastInDim S4x100x1 ![0, 1] bcast_S4x100_S4x100x1_0_1
        (transpose S4x100 [1, 0]
          (select (cmpi CmpIPredicate.slt w (broadcastInDim S100x4 ![] bcast_S_S100x4 (constantI S_ 32 0#32)))
            (addi w (broadcastInDim S100x4 ![] bcast_S_S100x4 (constantI S_ 32 5000#32))) w)
          transposes_S100x4_S4x100_1_0) (ix3 b l 0) = BitVec.ofNat 32 p := by
  pointwise
  rw [hp]
  have h : IntOp.cmpi .slt (BitVec.ofNat 32 p) 0#32 = 0#1 := by
    unfold IntOp.cmpi
    have : (BitVec.ofNat 32 p.val).slt 0#32 = false := by
      rw [BitVec.slt, toInt_ofNat (k := p.val) (by omega)]
      simp
    rw [this]
    rfl
  rw [h]
  rfl

/-- A valid choice is reported, -/
theorem qRows_at (x : FVec Ideal S4x5000x4 .f32) (y : IVec S4x5000 32) (z : FVec Ideal S4x5000 .f32) (w : IVec S100x4 32) (b : Fin 4) (l : Fin 100) (c : Fin 6) (p : Fin 5000)
    (hp : w (ix2 l b) = BitVec.ofNat 32 p) :
    qRows x y z w (ix3 b l c)
      = (![x (ix3 b p 0), x (ix3 b p 1), x (ix3 b p 2), x (ix3 b p 3), FloatOps.sitofp (F := Ideal) .f32 (y (ix2 b p)), z (ix2 b p)] : Fin 6 → EReal) c := by
  pointwise [qRows]
  simp only [takes_row y _ b l p (column_at w b l p hp), takes_row z _ b l p (column_at w b l p hp), fun e => takes_box x _ b l e p (column_at w b l p hp)]
  fin_cases c <;> rfl

/-- and nothing of one that is not valid. -/
theorem qOut_at (r : FVec Ideal S4x100x6 .f32) (v : IVec S100x4 1) (b : Fin 4) (l : Fin 100) (c : Fin 6) :
    qOut r v (ix3 b l c) = Scalar.select (v (ix2 l b)) (r (ix3 b l c)) 0 := by
  pointwise [qOut]
  exact congrArg (Scalar.select _ _) Ideal.ofBits_zero_f32

end Cert.ReferenceIdeal.Body

end
-- ==== Proof.Loop.lean ====
/-
  The two loops beside each other: after `k` rounds the kernel's scores and detections and the reference's scores, choices
  and validity agree.
-/
module

public import proofs.«01_k».proof.Proof.KerRead
public import proofs.«01_k».proof.Proof.KerSetup
public import proofs.«01_k».proof.Proof.RefRead

@[expose] public section

set_option maxRecDepth 16384

noncomputable section

namespace Cert.Loop

open Cert.Nms
open Idealize.ShloMosaic Idealize.ShloMosaic.TcCoe Idealize.ShloMosaic.Tactic

/-- The kernel's rows of scores and its detections; the reference's scores, choices and their validity. -/
abbrev Row : Type := FVec Ideal Cert.KernelIdeal.S4x5120 .f32
/-- The detections of the kernel. -/
abbrev Dets : Type := FVec Ideal Cert.KernelIdeal.S4x6x128 .f32
/-- The scores of the reference. -/
abbrev Scores : Type := FVec Ideal Cert.ReferenceIdeal.S4x5000 .f32
/-- The choices the reference notes. -/
abbrev Places : Type := IVec Cert.ReferenceIdeal.S100x4 32
/-- Whether a choice was valid. -/
abbrev Flags : Type := IVec Cert.ReferenceIdeal.S100x4 1

/-- A lane of the staged detections. -/
def lane (l : Fin 100) : Fin 128 := ⟨l.val, by omega⟩

/-- What holds after `k` rounds: the scores `s` and `s'` of every image are related; round `l < k` chose the box the
    reference noted, and the kernel reports it if it was valid and zeros if not; the later rounds' lanes are still zero. -/
structure Inv (K : Fin 4 → Fin 5000 → Prop) (d : Fin 4 → Fin 5120 → Fin 6 → EReal) (k : ℕ) (s : Row) (a : Dets) (s' : Scores) (w : Places) (u : Flags) : Prop where
  rel : ∀ b, Rel (K b) (fun j => s (ix2 b j)) (fun j => s' (ix2 b j))
  done : ∀ (b : Fin 4) (l : Fin 100), l.val < k → ∃ q : Fin 5000, w (ix2 l b) = BitVec.ofNat 32 q ∧
    ((u (ix2 l b) = 1#1 ∧ K b q ∧ ∀ e, a (ix3 b e (lane l)) = d b (wide q) e) ∨ (u (ix2 l b) = 0#1 ∧ ∀ e, a (ix3 b e (lane l)) = 0))
  rest : ∀ (b : Fin 4) (e : Fin 6) (l : Fin 128), k ≤ l.val → a (ix3 b e l) = 0

open Cert.KernelIdeal.Body Cert.ReferenceIdeal.Body

/-- One round keeps it. -/
theorem Inv.next {K : Fin 4 → Fin 5000 → Prop} {v25 v27 v55 v59 v63 v67 : Row} {k : ℕ} {s : Row} {a : Dets} {s' : Scores} {w : Places} {u : Flags}
    (h : Inv K (det v25 v27 v55 v59 v63 v67) k s a s' w u) (hk : k < 100) (kk : Fin Cert.KernelIdeal.k0_t1_loop.trips) (hkk : kk.val = k)
    (x : FVec Ideal Cert.ReferenceIdeal.S4x5000x4 .f32) (ar : Scores) (har : ∀ b j, ar (ix2 b j) = area fun c => x (ix3 b j c))
    (hbox : ∀ b j, K b j → box v25 v55 v59 v63 v67 b (wide j) = fun c => x (ix3 b j c)) (ctr : IVec Cert.ReferenceIdeal.S_ 32) (hctr : ctr = fun _ => BitVec.ofNat 32 k) :
    Inv K (det v25 v27 v55 v59 v63 v67) (k + 1) (step v25 v27 v55 v59 v63 v67 kk (s, a)).1 (step v25 v27 v55 v59 v63 v67 kk (s, a)).2
      (tScores ar s' (tIdx s') (tValid s' (tIdx s')) (tInter x (tIdx s'))) (tIdxs w ctr (tIdx s')) (tValids u ctr (tValid s' (tIdx s'))) := by
  choose p hp using fun b => exists_top (n := 5120) (by norm_num) (fun j => s (ix2 b j))
  choose p' hp' using fun b => exists_top (n := 5000) (by norm_num) (fun j => s' (ix2 b j))
  have hi := fun b => tIdx_top s' b (p' b) (hp' b)
  have hv := fun b => tValid_at s' _ b (p' b) (hi b)
  refine ⟨fun b => ?_, fun b l hl => ?_, fun b e l hl => ?_⟩
  · have hs : (fun j => (step v25 v27 v55 v59 v63 v67 kk (s, a)).1 (ix2 b j)) = Nms.next (box v25 v55 v59 v63 v67 b) (p b) (fun j => s (ix2 b j)) :=
      funext fun j => step_scores v25 v27 v55 v59 v63 v67 kk s a b (p b) j (hp b)
    have hs' : (fun j => tScores ar s' (tIdx s') (tValid s' (tIdx s')) (tInter x (tIdx s')) (ix2 b j)) = Nms.next (fun j c => x (ix3 b j c)) (p' b) (fun j => s' (ix2 b j)) :=
      funext fun j => tScores_at x ar s' _ _ _ b (p' b) j (har b) (hi b) (hv b) (tInter_at x _ b (p' b) j (hi b))
    rw [hs, hs']
    exact (h.rel b).next (hp b) (hp' b) (hbox b)
  · have hd := fun e => step_dets v25 v27 v55 v59 v63 v67 kk s a b (p b) e (lane l) (hp b)
    rw [tIdxs_at w ctr (tIdx s') k hk hctr, tValids_at u ctr _ k hk hctr]
    by_cases e : l.val = k
    · have ek : (lane l).val = kk.val := e.trans hkk.symm
      simp only [if_pos ek, h.rest b _ (lane l) (show k ≤ l.val by omega), zero_add] at hd
      rw [if_pos e, if_pos e]
      by_cases h0 : 0 < s (ix2 b (p b))
      · obtain ⟨e1, e2, -⟩ := (h.rel b).top (hp b) (hp' b) h0
        refine ⟨p' b, hi b, .inl ⟨?_, e2, fun e => ?_⟩⟩
        · rw [hv b, decide_eq_true (((h.rel b).pos_iff (hp b) (hp' b)).mp h0)]; rfl
        · rw [hd, if_pos h0, e1]
      · refine ⟨p' b, hi b, .inr ⟨?_, fun e => ?_⟩⟩
        · rw [hv b, decide_eq_false fun c => h0 (((h.rel b).pos_iff (hp b) (hp' b)).mpr c)]; rfl
        · rw [hd, if_neg h0]
    · have ek : ¬ (lane l).val = kk.val := fun c => e (c.trans hkk)
      simp only [if_neg ek, add_zero] at hd
      rw [if_neg e, if_neg e]
      obtain ⟨q, hq, hq'⟩ := h.done b l (by omega)
      refine ⟨q, hq, ?_⟩
      simp only [hd]
      exact hq'
  · rw [step_dets v25 v27 v55 v59 v63 v67 kk s a b (p b) e l (hp b), if_neg (by omega), add_zero]
    exact h.rest b e l (by omega)

/-! ## The start and the end -/

variable (x0 : Vec Ideal Cert.KernelIdeal.S4x4x5120 .f32) (x1 : Vec Ideal Cert.KernelIdeal.S4x6x5120 .f32)
  (a0 : FVec Ideal Cert.ReferenceIdeal.S4x5000x4 .f32) (a1 : FVec Ideal Cert.ReferenceIdeal.S4x5000x6 .f32)

/-- The staged inputs hold the two arguments, and zero columns after the boxes. -/
structure Staged : Prop where
  boxes : ∀ b e j, x0 (ix3 b e (wide j)) = a0 (ix3 b j e)
  columns : ∀ b e j, x1 (ix3 b e (wide j)) = a1 (ix3 b j e)
  tail : ∀ (b : Fin 4) (e : Fin 6) (j : Fin 5120), 5000 ≤ j.val → x1 (ix3 b e j) = (0 : EReal)

/-- The columns of a box. -/
def col (b : Fin 4) (j : Fin 5000) (e : Fin 6) : EReal := a1 (ix3 b j e)

/-- What the precondition says: a kept box has a whole class id. -/
def Whole : Prop := ∀ b j, Kept (col a1 b j) → FloatOps.sitofp (F := Ideal) .f32 (ident (col a1 b j)) = a1 (ix3 b j 4)

/-- The detections of the kernel. -/
abbrev dets : Fin 4 → Fin 5120 → Fin 6 → EReal := det (cls x1) (raw x1) (ry1 x0 x1) (rx1 x0 x1) (ry2 x0 x1) (rx2 x0 x1)

variable {x0 x1 a0 a1}

/-- A column of zeros is not kept. -/
theorem score_zeros (d : Fin 6 → EReal) (h : ∀ e, d e = 0) : score d = gone := by
  unfold score
  rw [if_neg]
  rintro ⟨-, h2⟩
  rw [h] at h2
  have h3 : (0 : EReal) < Ideal.ofBits .f32 0x3F333333#32 := by
    simp [Ideal.ofBits, Ideal.ieee, -EReal.coe_mul]
  exact absurd h2 (not_le.mpr h3)

/-- Before the first round. -/
theorem start (hx : Staged x0 x1 a0 a1) : Inv (fun b j => Kept (col a1 b j)) (dets x0 x1) 0 (scores0 x1) (Cert.KernelIdeal.Gen.k0_pay8 (F := Ideal)) (pScores (F := Ideal) (pIds a1) (pRaw a1)) pZeroI pZeroB where
  rel b := by
    refine ⟨fun j => ?_, fun j hj => ?_, fun j hj => ?_⟩
    · show scores0 x1 (ix2 b (wide j)) = pScores (F := Ideal) (pIds a1) (pRaw a1) (ix2 b j)
      rw [scores0_at, scores_at]
      simp only [hx.columns]
    · show scores0 x1 (ix2 b j) = gone
      rw [scores0_at]
      exact score_zeros _ fun e => hx.tail b e j hj
    · show pScores (F := Ideal) (pIds a1) (pRaw a1) (ix2 b j) = gone
      rw [scores_at]
      exact if_neg hj
  done b l hl := absurd hl (Nat.not_lt_zero _)
  rest b e l _ := dets0_at b e l

/-- The coordinates of a box are the same in both programs, -/
theorem coord_eq (hx : Staged x0 x1 a0 a1) (b : Fin 4) (j : Fin 5000) (c : Fin 4) :
    coord (fun c => x0 (ix3 b c (wide j))) (fun c => x1 (ix3 b c (wide j))) c = pBoxes (pRefined a0 a1) (ix3 b j c) := by
  rw [Cert.ReferenceIdeal.Body.boxes_at]
  simp only [hx.boxes, hx.columns]

/-- so are the moved boxes, if the class id is whole, -/
theorem box_eq (hx : Staged x0 x1 a0 a1) (hw : Whole a1) (b : Fin 4) (j : Fin 5000) (hj : Kept (col a1 b j)) :
    box (cls x1) (ry1 x0 x1) (rx1 x0 x1) (ry2 x0 x1) (rx2 x0 x1) b (wide j) = fun c => pOff (pBoxes (pRefined a0 a1)) (pIds a1) (ix3 b j c) := by
  funext c
  rw [off_at, ids_at, ← coord_eq hx]
  unfold box
  rw [cls_at, hx.columns]
  have he : FloatOps.sitofp (F := Ideal) .f32 (ident fun c => a1 (ix3 b j c)) = a1 (ix3 b j 4) := hw b j hj
  rw [he]
  congr 1
  fin_cases c
  · exact ry1_at x0 x1 b _
  · exact rx1_at x0 x1 b _
  · exact ry2_at x0 x1 b _
  · exact rx2_at x0 x1 b _

/-- and so is what is reported. -/
theorem det_eq (hx : Staged x0 x1 a0 a1) (hw : Whole a1) (b : Fin 4) (j : Fin 5000) (hj : Kept (col a1 b j)) (e : Fin 6) (w : Places) (l : Fin 100)
    (hq : w (ix2 l b) = BitVec.ofNat 32 j) :
    dets x0 x1 b (wide j) e = qRows (pBoxes (pRefined a0 a1)) (pIds a1) (pRaw a1) w (ix3 b l e) := by
  rw [qRows_at _ _ _ w b l e j hq, ids_at, Cert.ReferenceIdeal.Body.raw_at]
  have he : FloatOps.sitofp (F := Ideal) .f32 (ident fun c => a1 (ix3 b j c)) = a1 (ix3 b j 4) := hw b j hj
  rw [he]
  simp only [← coord_eq hx]
  unfold dets det
  fin_cases e
  · exact ry1_at x0 x1 b _
  · exact rx1_at x0 x1 b _
  · exact ry2_at x0 x1 b _
  · exact rx2_at x0 x1 b _
  · exact (cls_at x1 b _).trans (hx.columns b 4 j)
  · exact (Cert.KernelIdeal.Body.raw_at x1 b _).trans (hx.columns b 5 j)

/-- After the last round the results agree. -/
theorem Inv.result (hx : Staged x0 x1 a0 a1) (hw : Whole a1) {s : Row} {a : Dets} {s' : Scores} {w : Places} {u : Flags}
    (h : Inv (fun b j => Kept (col a1 b j)) (dets x0 x1) 100 s a s' w u) (b : Fin 4) (l : Fin 100) (e : Fin 6) :
    a (ix3 b e (lane l)) = qOut (qRows (pBoxes (pRefined a0 a1)) (pIds a1) (pRaw a1) w) u (ix3 b l e) := by
  rw [qOut_at]
  obtain ⟨q, hq, ⟨h1, h2, h3⟩ | ⟨h1, h2⟩⟩ := h.done b l l.isLt
  · rw [h1, h3, det_eq hx hw b q h2 e w l hq]; rfl
  · rw [h1, h2]; rfl

end Cert.Loop
-- ==== Proof.Value.lean ====
/-
  The two results are the same array.
-/
module

public import proofs.«01_k».proof.Defs
public import proofs.«01_k».proof.Proof.Loop
public import Idealize.ShloMosaic.Lib.ReduceAll

@[expose] public section

set_option maxRecDepth 16384

noncomputable section

namespace Cert.Value

open Cert.Nms Cert.Loop
open Idealize.ShloMosaic Idealize.ShloMosaic.TcCoe Idealize.ShloMosaic.Tactic

/-- What every round keeps holds of the fold of the rounds. -/
theorem fold_keeps {σ : Type} {n : ℕ} (g : Fin n → σ → σ) (x : σ) (P : ℕ → σ → Prop) (h0 : P 0 x)
    (hs : ∀ (k : Fin n) (y : σ), P k.val y → P (k.val + 1) (g k y)) : P n (Scf.fold g x) := by
  rw [Scf.fold_eq]
  induction n with
  | zero => exact h0
  | succ n ih =>
    rw [List.finRange_succ_last, List.foldl_append, List.foldl_map]
    exact hs (Fin.last n) _ (ih (fun k y => g k.castSucc y) fun k y hy => hs k.castSucc y hy)

/-! ## The precondition -/

/-- The side conditions of the precondition's operations. -/
theorem facts : Cert.Pre_whole_class_ids.Facts := by
  constructor <;> decide

/-- What the precondition says of every box. -/
theorem whole (a0 : FVec Ideal Cert.ReferenceIdeal.S4x5000x4 .f32) (a1 : FVec Ideal Cert.ReferenceIdeal.S4x5000x6 .f32)
    (h : @Cert.Pre_whole_class_ids.fn facts Ideal _ a0 a1 = fun _ => 1#1) : Whole a1 := by
  letI := facts
  intro b j hk
  haveI : Subsingleton (Cert.Pre_whole_class_ids.S_).Idx := ⟨fun x y => funext fun a => a.elim0⟩
  have e := Host.reduce_andi_all _ _ _ _ ix0 (congrFun h ix0) (ix2 b j)
  pointwise at e
  by_contra hne
  have h1 : ¬ a1 (ix3 b j 4) = FloatOps.sitofp (F := Ideal) .f32 (FloatOps.fptosi (F := Ideal) (φ := .f32) 32 (a1 (ix3 b j 4))) := fun c => hne c.symm
  have h2 : ¬ a1 (ix3 b j 5) < Ideal.ofBits .f32 0x3F333333#32 := not_lt.mpr hk.2
  have h3 : IntOp.cmpi .sle (FloatOps.fptosi (F := Ideal) (φ := .f32) 32 (a1 (ix3 b j 4))) 0#32 = 0#1 := by
    have h4 : (0#32).slt (FloatOps.fptosi (F := Ideal) (φ := .f32) 32 (a1 (ix3 b j 4))) = true := hk.1
    unfold IntOp.cmpi
    rw [BitVec.slt_iff_toInt_lt] at h4
    have h5 : (FloatOps.fptosi (F := Ideal) (φ := .f32) 32 (a1 (ix3 b j 4))).sle 0#32 = false := by
      rw [BitVec.sle, decide_eq_false_iff_not]
      omega
    rw [h5]
    rfl
  rw [decide_eq_false h1, decide_eq_false h2, h3] at e
  exact absurd e (by decide)

/-! ## The reference's run -/

section Ref

open Cert.ReferenceIdeal Cert.ReferenceIdeal.Body Cert.ReferenceIdeal.Gen

variable (m : (ℓ : Loc nD τ sig) → Buf (Elt Ideal) ℓ) (c : Dev nD)

/-- The buffers before round `k`. -/
abbrev at_ (k : ℕ) : Valuation τ sig (Elt Ideal) := StableHlo.atTrip condOps bodyI (StableHlo.entryContents preI m) k c

/-- The arguments. -/
abbrev rois : FVec Ideal S4x5000x4 .f32 := m ((c.tc : Thread nD τ).loc main_arg0)
/-- The second argument. -/
abbrev cols : FVec Ideal S4x5000x6 .f32 := m ((c.tc : Thread nD τ).loc main_arg1)

/-- Before every round the clipped boxes are those of the arguments. -/
theorem at_v83 (k : ℕ) : at_ m c k (Proc.devRef .tc main_v83) = pBoxes (pRefined (rois m c) (cols m c)) := by
  induction k with
  | zero => exact (entry_v83 _).trans (congrArg _ (entry_v58 _))
  | succ k ih => exact (trip_v83 _).trans ih
/-- So are the class ids. -/
theorem at_v2 (k : ℕ) : at_ m c k (Proc.devRef .tc main_v2) = pIds (cols m c) := by
  induction k with
  | zero => exact entry_v2 _
  | succ k ih => exact (trip_v2 _).trans ih
/-- So are the raw scores. -/
theorem at_v5 (k : ℕ) : at_ m c k (Proc.devRef .tc main_v5) = pRaw (cols m c) := by
  induction k with
  | zero => exact entry_v5 _
  | succ k ih => exact (trip_v5 _).trans ih
/-- So are the moved boxes. -/
theorem at_0 (k : ℕ) : at_ m c k (Proc.devRef .tc main_v109_0) = pOff (pBoxes (pRefined (rois m c) (cols m c))) (pIds (cols m c)) := by
  induction k with
  | zero => exact (entry_0 _).trans (congrArg₂ _ (at_v83 m c 0) (at_v2 m c 0))
  | succ k ih => exact (trip_v109_0 _).trans ih
/-- So are the areas. -/
theorem at_1 (k : ℕ) : at_ m c k (Proc.devRef .tc main_v109_1) = pArea (pOff (pBoxes (pRefined (rois m c) (cols m c))) (pIds (cols m c))) := by
  induction k with
  | zero => exact (entry_1 _).trans (congrArg _ (at_0 m c 0))
  | succ k ih => exact (trip_v109_1 _).trans ih

/-- The result, if the loop ran `n` rounds. -/
theorem exit_at (n : ℕ) : StableHlo.afterL postI (StableHlo.after condOps (at_ m c n)) (Proc.devRef .tc main_v140)
    = qOut (qRows (pBoxes (pRefined (rois m c) (cols m c))) (pIds (cols m c)) (pRaw (cols m c)) (at_ m c n (Proc.devRef .tc main_v109_4)))
        (at_ m c n (Proc.devRef .tc main_v109_5)) := by
  rw [exit_140 (at_ m c n), exit_137 (at_ m c n), at_v83, at_v2, at_v5]

/-- The result. -/
theorem final_v140 : final m c (Proc.devRef .tc main_v140)
    = qOut (qRows (pBoxes (pRefined (rois m c) (cols m c))) (pIds (cols m c)) (pRaw (cols m c)) (at_ m c 100 (Proc.devRef .tc main_v109_4)))
        (at_ m c 100 (Proc.devRef .tc main_v109_5)) :=
  exit_at m c 100

/-- The loops beside each other, to the end. -/
theorem both {x0 : Vec Ideal Cert.KernelIdeal.S4x4x5120 .f32} {x1 : Vec Ideal Cert.KernelIdeal.S4x6x5120 .f32}
    (hx : Staged x0 x1 (rois m c) (cols m c)) (hw : Whole (cols m c)) :
    Inv (fun b j => Nms.Kept (col (cols m c) b j)) (dets x0 x1) 100 (Cert.KernelIdeal.Body.carried x0 x1).1 (Cert.KernelIdeal.Body.carried x0 x1).2
      (at_ m c 100 (Proc.devRef .tc main_v109_3)) (at_ m c 100 (Proc.devRef .tc main_v109_4)) (at_ m c 100 (Proc.devRef .tc main_v109_5)) := by
  refine fold_keeps (n := Cert.KernelIdeal.k0_t1_loop.trips) _ _ (fun k (sa : Row × Dets) => Inv (fun b j => Nms.Kept (col (cols m c) b j)) (dets x0 x1) k sa.1 sa.2
      (at_ m c k (Proc.devRef .tc main_v109_3)) (at_ m c k (Proc.devRef .tc main_v109_4)) (at_ m c k (Proc.devRef .tc main_v109_5))) ?_ ?_
  · have e3 : at_ m c 0 (Proc.devRef .tc main_v109_3) = pScores (pIds (cols m c)) (pRaw (cols m c)) := (entry_3 _).trans (congrArg₂ _ (at_v2 m c 0) (at_v5 m c 0))
    have e4 : at_ m c 0 (Proc.devRef .tc main_v109_4) = pZeroI := entry_4 _
    have e5 : at_ m c 0 (Proc.devRef .tc main_v109_5) = pZeroB := entry_5 _
    show Inv _ _ 0 _ _ _ _ _
    rw [e3, e4, e5]
    exact start hx
  · intro k sa h
    have e3 := trip_3 (at_ m c k.val)
    have e4 := trip_4 (at_ m c k.val)
    have e5 := trip_5 (at_ m c k.val)
    have hk : k.val < 100 := k.isLt
    rw [at_0, at_1] at e3
    have := h.next hk k rfl (pOff (pBoxes (pRefined (rois m c) (cols m c))) (pIds (cols m c))) _ (fun b j => pArea_at _ b j)
      (fun b j hj => box_eq hx hw b j hj) _ (ctr_at m c k.val)
    rw [← e3, ← e4, ← e5] at this
    exact this

end Ref

/-- The kernel's result is the reference's. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : rois m' c = m ((c.tc : Thread Cert.KernelIdeal.nD Cert.KernelIdeal.τ).loc Cert.KernelIdeal.main_arg0))
    (h1 : cols m' c = m ((c.tc : Thread Cert.KernelIdeal.nD Cert.KernelIdeal.τ).loc Cert.KernelIdeal.main_arg1)) (hw : Whole (cols m' c)) :
    Cert.ReferenceIdeal.Body.final m' c (Proc.devRef .tc Cert.ReferenceIdeal.main_v140)
      = Pipeline.afterTail₀ Cert.KernelIdeal.cfgs (Cert.KernelIdeal.Body.dats m) 0 (Cert.KernelIdeal.Gen.V0 m) [Cert.KernelIdeal.Gen.hostOps1] c Cert.KernelIdeal.main_v6 := by
  have hx : Staged (Cert.KernelIdeal.Gen.iblk m c 0 Cert.KernelIdeal.Gen.t0_0) (Cert.KernelIdeal.Gen.iblk m c 1 Cert.KernelIdeal.Gen.t0_0) (rois m' c) (cols m' c) :=
    ⟨fun b e j => (Cert.KernelIdeal.Body.boxes_at m c _ b e j).trans (congrFun h0 _).symm, fun b e j => (Cert.KernelIdeal.Body.columns_at m c _ b e j).trans (congrFun h1 _).symm,
      fun b e j hj => Cert.KernelIdeal.Body.columns_tail m c _ b e j hj⟩
  rw [final_v140]
  refine funext fun (i : Cert.ReferenceIdeal.S4x100x6.Idx) => ?_
  have hi : i = ix3 (i 0) (i 1) (i 2) := funext fun a => match a with | 0 => rfl | 1 => rfl | 2 => rfl
  rw [hi]
  exact ((Cert.KernelIdeal.Body.result_at m c Cert.KernelIdeal.Gen.t0_0 (i 0) (i 1) (i 2)).trans ((both m' c hx hw).result hx hw (i 0) (i 1) (i 2))).symm

end Cert.Value
-- ==== Proof.lean ====
/-
  The certificate: each program's run as its claims state it.
-/
module

public import proofs.«01_k».proof.Defs
public import proofs.«01_k».proof.Proof.RunKernel
public import proofs.«01_k».proof.Proof.RunKernelIdeal
public import proofs.«01_k».proof.Proof.RunReferenceIdeal
public import proofs.«01_k».proof.Proof.Value

@[expose] public section

noncomputable section

namespace Cert.Proof

open Idealize.ShloMosaic Idealize.ShloMosaic.TcCoe Idealize.SL.Sem

/-- The kernel at the machine's floats terminates, leaves its arguments alone and ends with every counter at zero. -/
theorem frame_kernel : quiescent_Kernel (hKernel := Cert.Kernel.Gen.facts) := fun m g _ =>
  (Cert.Kernel.Body.run_main (F := Bits) m g).mono fun r h =>
    ⟨fun c =>
      ⟨((h.1 c).2 Cert.Kernel.main_arg0 (Pipeline.mem_restRefs_of Cert.Kernel.main_arg0 (by decide) (by decide))).trans (Cert.Kernel.Gen.W_main_arg0 m _ c),
       ((h.1 c).2 Cert.Kernel.main_arg1 (Pipeline.mem_restRefs_of Cert.Kernel.main_arg1 (by decide) (by decide))).trans (Cert.Kernel.Gen.W_main_arg1 m _ c)⟩, h.2⟩

/-- The same at the extended reals. -/
theorem frame_kernelIdeal : quiescent_KernelIdeal (hKernelIdeal := Cert.KernelIdeal.Gen.facts) := fun m g _ =>
  (Cert.KernelIdeal.Body.run_main (F := Ideal) m g).mono fun r h =>
    ⟨fun c =>
      ⟨((h.1 c).2 Cert.KernelIdeal.main_arg0 (Pipeline.mem_restRefs_of Cert.KernelIdeal.main_arg0 (by decide) (by decide))).trans (Cert.KernelIdeal.Gen.W_main_arg0 m _ c),
       ((h.1 c).2 Cert.KernelIdeal.main_arg1 (Pipeline.mem_restRefs_of Cert.KernelIdeal.main_arg1 (by decide) (by decide))).trans (Cert.KernelIdeal.Gen.W_main_arg1 m _ c)⟩, h.2⟩

/-- The reference at the extended reals. -/
theorem frame_referenceIdeal : quiescent_ReferenceIdeal (hReferenceIdeal := Cert.ReferenceIdeal.Gen.facts) := fun m g _ =>
  (Cert.ReferenceIdeal.Body.run_main (F := Ideal) m g).mono fun r h =>
    ⟨fun c => ⟨(h.1 c Cert.ReferenceIdeal.main_arg0 rfl).trans (Cert.ReferenceIdeal.Body.final_arg0 m c),
      (h.1 c Cert.ReferenceIdeal.main_arg1 rfl).trans (Cert.ReferenceIdeal.Body.final_arg1 m c)⟩, h.2⟩

/-- The kernel and the reference, from the same arguments with whole class ids, end with the same result and leave their
    arguments alone. -/
theorem value : algebraic_KernelIdeal_ReferenceIdeal_pre_whole_class_ids (hKernelIdeal := Cert.KernelIdeal.Gen.facts)
    (hReferenceIdeal := Cert.ReferenceIdeal.Gen.facts) (hPre_whole_class_ids := Cert.Value.facts) := by
  intro m g m' g' hpre hsame
  refine ⟨fun c => Pipeline.afterTail₀ Cert.KernelIdeal.cfgs (Cert.KernelIdeal.Body.dats m) 0 (Cert.KernelIdeal.Gen.V0 m) [Cert.KernelIdeal.Gen.hostOps1] c Cert.KernelIdeal.main_v6, ?_, ?_⟩
  · exact (Cert.KernelIdeal.Body.run_main (F := Ideal) m g).mono fun r h c =>
      ⟨(h.1 c).2 Cert.KernelIdeal.main_v6 (Pipeline.mem_restRefs_of Cert.KernelIdeal.main_v6 (by decide) (by decide)),
       ((h.1 c).2 Cert.KernelIdeal.main_arg0 (Pipeline.mem_restRefs_of Cert.KernelIdeal.main_arg0 (by decide) (by decide))).trans (Cert.KernelIdeal.Gen.W_main_arg0 m _ c),
       ((h.1 c).2 Cert.KernelIdeal.main_arg1 (Pipeline.mem_restRefs_of Cert.KernelIdeal.main_arg1 (by decide) (by decide))).trans (Cert.KernelIdeal.Gen.W_main_arg1 m _ c)⟩
  · refine (Cert.ReferenceIdeal.Body.run_main (F := Ideal) m' g').mono fun r h c => ⟨?_, ?_, ?_⟩
    · refine (h.1 c Cert.ReferenceIdeal.main_v140 rfl).trans (Cert.Value.same m m' c (hsame c).1 (hsame c).2 (Cert.Value.whole (Cert.Value.rois m' c) _ ?_))
      refine Eq.trans ?_ (hpre c)
      exact congrArg₂ (@Cert.Pre_whole_class_ids.fn Cert.Value.facts Ideal _) (hsame c).1 (hsame c).2
    · exact (h.1 c Cert.ReferenceIdeal.main_arg0 rfl).trans (Cert.ReferenceIdeal.Body.final_arg0 m' c)
    · exact (h.1 c Cert.ReferenceIdeal.main_arg1 rfl).trans (Cert.ReferenceIdeal.Body.final_arg1 m' c)

/-- Everything claimed. -/
theorem claim : Claim :=
  ⟨Cert.Kernel.Gen.facts, Cert.KernelIdeal.Gen.facts, Cert.ReferenceIdeal.Gen.facts, Cert.Value.facts,
    frame_kernel, frame_kernelIdeal, fun m g _ => frame_kernelIdeal m g trivial, frame_referenceIdeal, fun m g _ => frame_referenceIdeal m g trivial, trivial, value⟩

end Cert.Proof

end
